-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_2)) (v1 : (c : Dev Cert.KernelIdeal.nD) → Buf (Elt Ideal) ((c.tc : Thread Cert.KernelIdeal.nD Cert.KernelIdeal.τ).loc Cert.KernelIdeal.main_v10_2)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v12_2)) (v4 : (c : Dev Cert.KernelIdeal.nD) → Buf (Elt Ideal) ((c.tc : Thread Cert.KernelIdeal.nD Cert.KernelIdeal.τ).loc Cert.KernelIdeal.main_v13_2)) (v5 : (c : Dev Cert.KernelIdeal.nD) → Buf (Elt Ideal) ((c.tc : Thread Cert.KernelIdeal.nD Cert.KernelIdeal.τ).loc Cert.KernelIdeal.main_v14_2)) (v6 : (c : Dev Cert.KernelIdeal.nD) → Buf (Elt Ideal) ((c.tc : Thread Cert.KernelIdeal.nD Cert.KernelIdeal.τ).loc Cert.KernelIdeal.main_v15_2)) (v7 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_2) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v12_2) = v3 c
          ∧ r.2.mem ((c.tc : Thread Cert.KernelIdeal.nD Cert.KernelIdeal.τ).loc Cert.KernelIdeal.main_v13_2) = v4 c
          ∧ r.2.mem ((c.tc : Thread Cert.KernelIdeal.nD Cert.KernelIdeal.τ).loc Cert.KernelIdeal.main_v14_2) = v5 c
          ∧ r.2.mem ((c.tc : Thread Cert.KernelIdeal.nD Cert.KernelIdeal.τ).loc Cert.KernelIdeal.main_v15_2) = v6 c
          ∧ r.2.mem ((c.tc : Thread Cert.KernelIdeal.nD Cert.KernelIdeal.τ).loc Cert.KernelIdeal.main_v16_2) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_v58) = v6 c
          ∧ r.2.mem ((c.tc : Thread Cert.ReferenceIdeal.nD Cert.ReferenceIdeal.τ).loc Cert.ReferenceIdeal.main_v60) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x3584 : Shape := ⟨3, ![12, 128, 3584]⟩
abbrev S12x128x18944 : Shape := ⟨3, ![12, 128, 18944]⟩
abbrev S12x128x148 : Shape := ⟨3, ![12, 128, 148]⟩
abbrev S2x18944x448 : Shape := ⟨3, ![2, 18944, 448]⟩
abbrev S2x256x4 : Shape := ⟨3, ![2, 256, 4]⟩
abbrev S18944 : Shape := ⟨1, ![18944]⟩
abbrev S1536x3584 : Shape := ⟨2, ![1536, 3584]⟩
abbrev S1536x18944 : Shape := ⟨2, ![1536, 18944]⟩
abbrev S1536x148 : Shape := ⟨2, ![1536, 148]⟩
abbrev S_ : Shape := ⟨0, ![]⟩
abbrev S1536x256 : Shape := ⟨2, ![1536, 256]⟩
abbrev S74x1x256 : Shape := ⟨3, ![74, 1, 256]⟩
abbrev S2x4x256 : Shape := ⟨3, ![2, 4, 256]⟩
abbrev S2x4x2x1x128 : Shape := ⟨5, ![2, 4, 2, 1, 128]⟩
abbrev S2x4x2x8x128 : Shape := ⟨5, ![2, 4, 2, 8, 128]⟩
abbrev S3584x1536 : Shape := ⟨2, ![3584, 1536]⟩
abbrev S256x1536 : Shape := ⟨2, ![256, 1536]⟩
abbrev S256x256 : Shape := ⟨2, ![256, 256]⟩
abbrev S20x56x8x8x128 : Shape := ⟨5, ![20, 56, 8, 8, 128]⟩
abbrev S20x56x8x128 : Shape := ⟨4, ![20, 56, 8, 128]⟩
abbrev S10x1x256 : Shape := ⟨3, ![10, 1, 256]⟩
abbrev S2x256x448 : Shape := ⟨3, ![2, 256, 448]⟩
abbrev S1x1x256 : Shape := ⟨3, ![1, 1, 256]⟩
abbrev S2x56x8x8x128 : Shape := ⟨5, ![2, 56, 8, 8, 128]⟩
abbrev S2x56x8x128 : Shape := ⟨4, ![2, 56, 8, 128]⟩
abbrev S448x256 : Shape := ⟨2, ![448, 256]⟩
abbrev S1536x128 : Shape := ⟨2, ![1536, 128]⟩
abbrev S1536x128x1 : Shape := ⟨3, ![1536, 128, 1]⟩
abbrev S1x256x448 : Shape := ⟨3, ![1, 256, 448]⟩
abbrev S256x448 : Shape := ⟨2, ![256, 448]⟩
abbrev S8x128 : Shape := ⟨2, ![8, 128]⟩
abbrev S448x1536 : Shape := ⟨2, ![448, 1536]⟩
abbrev S1x1x128 : Shape := ⟨3, ![1, 1, 128]⟩
abbrev S1x128 : Shape := ⟨2, ![1, 128]⟩
abbrev S1x1x8x128 : Shape := ⟨4, ![1, 1, 8, 128]⟩
abbrev S1x1x1x8x128 : Shape := ⟨5, ![1, 1, 1, 8, 128]⟩
abbrev S8x128x1 : Shape := ⟨3, ![8, 128, 1]⟩
abbrev S128 : Shape := ⟨1, ![128]⟩
abbrev S16x56x8x8x128 : Shape := ⟨5, ![16, 56, 8, 8, 128]⟩
abbrev S16x56x8x128 : Shape := ⟨4, ![16, 56, 8, 128]⟩
abbrev S8x1x256 : Shape := ⟨3, ![8, 1, 256]⟩
abbrev S12x56x8x8x128 : Shape := ⟨5, ![12, 56, 8, 8, 128]⟩
abbrev S12x56x8x128 : Shape := ⟨4, ![12, 56, 8, 128]⟩
abbrev S6x1x256 : Shape := ⟨3, ![6, 1, 256]⟩

abbrev nBuf : Space → Nat
  | .hbm => 41
  | .vmem => 140
  | .smem => 0
  | _ => 0

abbrev vmemTy0_0 (i : Nat) : BufTy := match i % 128 with
  | 0 => ⟨S1536x256, .bf16⟩
  | 1 => ⟨S1536x256, .bf16⟩
  | 2 => ⟨S256x1536, .bf16⟩
  | 3 => ⟨S256x1536, .bf16⟩
  | 4 => ⟨S3584x1536, .bf16⟩
  | 5 => ⟨S1536x256, .fp8e5m2⟩
  | 6 => ⟨S1536x256, .fp8e5m2⟩
  | 7 => ⟨S1536x256, .f32⟩
  | 8 => ⟨S2x256x448, .i8⟩
  | 9 => ⟨S2x256x448, .i8⟩
  | 10 => ⟨S2x4x2x8x128, .i32⟩
  | 11 => ⟨S1x1x256, .f32⟩
  | 12 => ⟨S1x1x256, .f32⟩
  | 13 => ⟨S2x56x8x8x128, .f32⟩
  | 14 => ⟨S2x56x8x8x128, .f32⟩
  | 15 => ⟨S2x56x8x128, .i32⟩
  | 16 => ⟨S2x56x8x128, .i32⟩
  | 17 => ⟨S1x1x256, .f32⟩
  | 18 => ⟨S1x1x256, .f32⟩
  | 19 => ⟨S1536x256, .bf16⟩
  | 20 => ⟨S448x256, .i32⟩
  | 21 => ⟨S3584x1536, .bf16⟩
  | 22 => ⟨S1536x256, .fp8e5m2⟩
  | 23 => ⟨S1536x256, .fp8e5m2⟩
  | 24 => ⟨S1536x256, .f32⟩
  | 25 => ⟨S2x256x448, .i8⟩
  | 26 => ⟨S2x256x448, .i8⟩
  | 27 => ⟨S2x4x2x8x128, .i32⟩
  | 28 => ⟨S1x1x256, .f32⟩
  | 29 => ⟨S1x1x256, .f32⟩
  | 30 => ⟨S2x56x8x8x128, .f32⟩
  | 31 => ⟨S2x56x8x8x128, .f32⟩
  | 32 => ⟨S2x56x8x128, .i32⟩
  | 33 => ⟨S2x56x8x128, .i32⟩
  | 34 => ⟨S1x1x256, .f32⟩
  | 35 => ⟨S1x1x256, .f32⟩
  | 36 => ⟨S1536x256, .bf16⟩
  | 37 => ⟨S448x256, .i32⟩
  | 38 => ⟨S3584x1536, .bf16⟩
  | 39 => ⟨S1536x256, .fp8e5m2⟩
  | 40 => ⟨S1536x256, .fp8e5m2⟩
  | 41 => ⟨S1536x256, .f32⟩
  | 42 => ⟨S2x256x448, .i8⟩
  | 43 => ⟨S2x256x448, .i8⟩
  | 44 => ⟨S2x4x2x8x128, .i32⟩
  | 45 => ⟨S1x1x256, .f32⟩
  | 46 => ⟨S1x1x256, .f32⟩
  | 47 => ⟨S2x56x8x8x128, .f32⟩
  | 48 => ⟨S2x56x8x8x128, .f32⟩
  | 49 => ⟨S2x56x8x128, .i32⟩
  | 50 => ⟨S2x56x8x128, .i32⟩
  | 51 => ⟨S1x1x256, .f32⟩
  | 52 => ⟨S1x1x256, .f32⟩
  | 53 => ⟨S1536x256, .bf16⟩
  | 54 => ⟨S448x256, .i32⟩
  | 55 => ⟨S3584x1536, .bf16⟩
  | 56 => ⟨S1536x256, .fp8e5m2⟩
  | 57 => ⟨S1536x256, .fp8e5m2⟩
  | 58 => ⟨S1536x256, .f32⟩
  | 59 => ⟨S2x256x448, .i8⟩
  | 60 => ⟨S2x256x448, .i8⟩
  | 61 => ⟨S2x4x2x8x128, .i32⟩
  | 62 => ⟨S1x1x256, .f32⟩
  | 63 => ⟨S1x1x256, .f32⟩
  | 64 => ⟨S2x56x8x8x128, .f32⟩
  | 65 => ⟨S2x56x8x8x128, .f32⟩
  | 66 => ⟨S2x56x8x128, .i32⟩
  | 67 => ⟨S2x56x8x128, .i32⟩
  | 68 => ⟨S1x1x256, .f32⟩
  | 69 => ⟨S1x1x256, .f32⟩
  | 70 => ⟨S1536x256, .bf16⟩
  | 71 => ⟨S448x256, .i32⟩
  | 72 => ⟨S3584x1536, .bf16⟩
  | 73 => ⟨S1536x256, .fp8e5m2⟩
  | 74 => ⟨S1536x256, .fp8e5m2⟩
  | 75 => ⟨S1536x256, .f32⟩
  | 76 => ⟨S2x256x448, .i8⟩
  | 77 => ⟨S2x256x448, .i8⟩
  | 78 => ⟨S2x4x2x8x128, .i32⟩
  | 79 => ⟨S1x1x256, .f32⟩
  | 80 => ⟨S1x1x256, .f32⟩
  | 81 => ⟨S2x56x8x8x128, .f32⟩
  | 82 => ⟨S2x56x8x8x128, .f32⟩
  | 83 => ⟨S2x56x8x128, .i32⟩
  | 84 => ⟨S2x56x8x128, .i32⟩
  | 85 => ⟨S1x1x256, .f32⟩
  | 86 => ⟨S1x1x256, .f32⟩
  | 87 => ⟨S1536x256, .bf16⟩
  | 88 => ⟨S448x256, .i32⟩
  | 89 => ⟨S3584x1536, .bf16⟩
  | 90 => ⟨S1536x256, .fp8e5m2⟩
  | 91 => ⟨S1536x256, .fp8e5m2⟩
  | 92 => ⟨S1536x256, .f32⟩
  | 93 => ⟨S2x256x448, .i8⟩
  | 94 => ⟨S2x256x448, .i8⟩
  | 95 => ⟨S2x4x2x8x128, .i32⟩
  | 96 => ⟨S1x1x256, .f32⟩
  | 97 => ⟨S1x1x256, .f32⟩
  | 98 => ⟨S2x56x8x8x128, .f32⟩
  | 99 => ⟨S2x56x8x8x128, .f32⟩
  | 100 => ⟨S2x56x8x128, .i32⟩
  | 101 => ⟨S2x56x8x128, .i32⟩
  | 102 => ⟨S1x1x256, .f32⟩
  | 103 => ⟨S1x1x256, .f32⟩
  | 104 => ⟨S1536x256, .bf16⟩
  | 105 => ⟨S448x256, .i32⟩
  | 106 => ⟨S3584x1536, .bf16⟩
  | 107 => ⟨S1536x256, .fp8e5m2⟩
  | 108 => ⟨S1536x256, .fp8e5m2⟩
  | 109 => ⟨S1536x256, .f32⟩
  | 110 => ⟨S2x256x448, .i8⟩
  | 111 => ⟨S2x256x448, .i8⟩
  | 112 => ⟨S2x4x2x8x128, .i32⟩
  | 113 => ⟨S1x1x256, .f32⟩
  | 114 => ⟨S1x1x256, .f32⟩
  | 115 => ⟨S2x56x8x8x128, .f32⟩
  | 116 => ⟨S2x56x8x8x128, .f32⟩
  | 117 => ⟨S2x56x8x128, .i32⟩
  | 118 => ⟨S2x56x8x128, .i32⟩
  | 119 => ⟨S1x1x256, .f32⟩
  | 120 => ⟨S1x1x256, .f32⟩
  | 121 => ⟨S1536x256, .bf16⟩
  | 122 => ⟨S448x256, .i32⟩
  | 123 => ⟨S3584x1536, .bf16⟩
  | 124 => ⟨S1536x256, .fp8e5m2⟩
  | 125 => ⟨S1536x256, .fp8e5m2⟩
  | 126 => ⟨S1536x256, .f32⟩
  | 127 => ⟨S2x256x448, .i8⟩
  | _ => ⟨S12x128x3584, .bf16⟩

abbrev vmemTy0_1 (i : Nat) : BufTy := match i % 128 with
  | 0 => ⟨S2x256x448, .i8⟩
  | 1 => ⟨S2x4x2x8x128, .i32⟩
  | 2 => ⟨S1x1x256, .f32⟩
  | 3 => ⟨S1x1x256, .f32⟩
  | 4 => ⟨S2x56x8x8x128, .f32⟩
  | 5 => ⟨S2x56x8x8x128, .f32⟩
  | 6 => ⟨S2x56x8x128, .i32⟩
  | 7 => ⟨S2x56x8x128, .i32⟩
  | 8 => ⟨S1x1x256, .f32⟩
  | 9 => ⟨S1x1x256, .f32⟩
  | 10 => ⟨S1536x256, .bf16⟩
  | 11 => ⟨S448x256, .i32⟩
  | _ => ⟨S12x128x3584, .bf16⟩

abbrev vmemTy (i : Nat) : BufTy := match i / 128 with
  | 0 => vmemTy0_0 i
  | 1 => vmemTy0_1 i
  | _ => ⟨S12x128x3584, .bf16⟩

abbrev bufTy : (tb : Table) → Fin (tcTables nBuf tb) → BufTy
  | .hbm, ⟨0, _⟩ => ⟨S12x128x3584, .bf16⟩
  | .hbm, ⟨1, _⟩ => ⟨S12x128x18944, .fp8e5m2⟩
  | .hbm, ⟨2, _⟩ => ⟨S12x128x148, .f32⟩
  | .hbm, ⟨3, _⟩ => ⟨S2x18944x448, .i8⟩
  | .hbm, ⟨4, _⟩ => ⟨S2x256x4, .i32⟩
  | .hbm, ⟨5, _⟩ => ⟨S18944, .f32⟩
  | .hbm, ⟨6, _⟩ => ⟨S1536x3584, .bf16⟩
  | .hbm, ⟨7, _⟩ => ⟨S1536x18944, .fp8e5m2⟩
  | .hbm, ⟨8, _⟩ => ⟨S1536x148, .f32⟩
  | .hbm, ⟨9, _⟩ => ⟨S_, .i32⟩
  | .hbm, ⟨10, _⟩ => ⟨S_, .f32⟩
  | .hbm, ⟨11, _⟩ => ⟨S1536x256, .f32⟩
  | .hbm, ⟨12, _⟩ => ⟨S74x1x256, .f32⟩
  | .hbm, ⟨13, _⟩ => ⟨S2x4x256, .i32⟩
  | .hbm, ⟨14, _⟩ => ⟨S2x4x2x1x128, .i32⟩
  | .hbm, ⟨15, _⟩ => ⟨S2x4x2x8x128, .i32⟩
  | .hbm, ⟨16, _⟩ => ⟨S3584x1536, .bf16⟩
  | .hbm, ⟨17, _⟩ => ⟨S20x56x8x8x128, .f32⟩
  | .hbm, ⟨18, _⟩ => ⟨S20x56x8x128, .i32⟩
  | .hbm, ⟨19, _⟩ => ⟨S10x1x256, .f32⟩
  | .hbm, ⟨20, _⟩ => ⟨S20x56x8x8x128, .f32⟩
  | .hbm, ⟨21, _⟩ => ⟨S20x56x8x128, .i32⟩
  | .hbm, ⟨22, _⟩ => ⟨S10x1x256, .f32⟩
  | .hbm, ⟨23, _⟩ => ⟨S20x56x8x8x128, .f32⟩
  | .hbm, ⟨24, _⟩ => ⟨S20x56x8x128, .i32⟩
  | .hbm, ⟨25, _⟩ => ⟨S10x1x256, .f32⟩
  | .hbm, ⟨26, _⟩ => ⟨S20x56x8x8x128, .f32⟩
  | .hbm, ⟨27, _⟩ => ⟨S20x56x8x128, .i32⟩
  | .hbm, ⟨28, _⟩ => ⟨S10x1x256, .f32⟩
  | .hbm, ⟨29, _⟩ => ⟨S20x56x8x8x128, .f32⟩
  | .hbm, ⟨30, _⟩ => ⟨S20x56x8x128, .i32⟩
  | .hbm, ⟨31, _⟩ => ⟨S10x1x256, .f32⟩
  | .hbm, ⟨32, _⟩ => ⟨S20x56x8x8x128, .f32⟩
  | .hbm, ⟨33, _⟩ => ⟨S20x56x8x128, .i32⟩
  | .hbm, ⟨34, _⟩ => ⟨S10x1x256, .f32⟩
  | .hbm, ⟨35, _⟩ => ⟨S16x56x8x8x128, .f32⟩
  | .hbm, ⟨36, _⟩ => ⟨S16x56x8x128, .i32⟩
  | .hbm, ⟨37, _⟩ => ⟨S8x1x256, .f32⟩
  | .hbm, ⟨38, _⟩ => ⟨S12x56x8x8x128, .f32⟩
  | .hbm, ⟨39, _⟩ => ⟨S12x56x8x128, .i32⟩
  | .hbm, ⟨40, _⟩ => ⟨S6x1x256, .f32⟩
  | .local _ .vmem, ⟨i, _⟩ => vmemTy i
  | _, _ => ⟨S12x128x3584, .bf16⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc3_stg7_0 : Ref sig .tc := ⟨.vmem, 49, rfl⟩
abbrev cc3_stg7_1 : Ref sig .tc := ⟨.vmem, 50, rfl⟩
abbrev cc3_stg8_0 : Ref sig .tc := ⟨.vmem, 51, rfl⟩
abbrev cc3_stg8_1 : Ref sig .tc := ⟨.vmem, 52, rfl⟩
abbrev cc3_scratch0 : Ref sig .tc := ⟨.vmem, 53, rfl⟩
abbrev cc3_scratch1 : Ref sig .tc := ⟨.vmem, 54, rfl⟩
abbrev cc4_stg0_0 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg3_1 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg5_1 : Ref sig .tc := ⟨.vmem, 63, rfl⟩
abbrev cc4_stg6_0 : Ref sig .tc := ⟨.vmem, 64, rfl⟩
abbrev cc4_stg6_1 : Ref sig .tc := ⟨.vmem, 65, rfl⟩
abbrev cc4_stg7_0 : Ref sig .tc := ⟨.vmem, 66, rfl⟩
abbrev cc4_stg7_1 : Ref sig .tc := ⟨.vmem, 67, rfl⟩
abbrev cc4_stg8_0 : Ref sig .tc := ⟨.vmem, 68, rfl⟩
abbrev cc4_stg8_1 : Ref sig .tc := ⟨.vmem, 69, rfl⟩
abbrev cc4_scratch0 : Ref sig .tc := ⟨.vmem, 70, rfl⟩
abbrev cc4_scratch1 : Ref sig .tc := ⟨.vmem, 71, rfl⟩
abbrev cc5_stg0_0 : Ref sig .tc := ⟨.vmem, 72, rfl⟩
abbrev cc5_stg1_0 : Ref sig .tc := ⟨.vmem, 73, rfl⟩
abbrev cc5_stg1_1 : Ref sig .tc := ⟨.vmem, 74, rfl⟩
abbrev cc5_stg2_0 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg5_0 : Ref sig .tc := ⟨.vmem, 79, rfl⟩
abbrev cc5_stg5_1 : Ref sig .tc := ⟨.vmem, 80, rfl⟩
abbrev cc5_stg6_0 : Ref sig .tc := ⟨.vmem, 81, rfl⟩
abbrev cc5_stg6_1 : Ref sig .tc := ⟨.vmem, 82, rfl⟩
abbrev cc5_stg7_0 : Ref sig .tc := ⟨.vmem, 83, rfl⟩
abbrev cc5_stg7_1 : Ref sig .tc := ⟨.vmem, 84, rfl⟩
abbrev cc5_stg8_0 : Ref sig .tc := ⟨.vmem, 85, rfl⟩
abbrev cc5_stg8_1 : Ref sig .tc := ⟨.vmem, 86, rfl⟩
abbrev cc5_scratch0 : Ref sig .tc := ⟨.vmem, 87, rfl⟩
abbrev cc5_scratch1 : Ref sig .tc := ⟨.vmem, 88, rfl⟩
abbrev cc6_stg0_0 : Ref sig .tc := ⟨.vmem, 89, rfl⟩
abbrev cc6_stg1_0 : Ref sig .tc := ⟨.vmem, 90, rfl⟩
abbrev cc6_stg1_1 : Ref sig .tc := ⟨.vmem, 91, rfl⟩
abbrev cc6_stg2_0 : Ref sig .tc := ⟨.vmem, 92, rfl⟩
abbrev cc6_stg3_0 : Ref sig .tc := ⟨.vmem, 93, rfl⟩
abbrev cc6_stg3_1 : Ref sig .tc := ⟨.vmem, 94, rfl⟩
abbrev cc6_stg4_0 : Ref sig .tc := ⟨.vmem, 95, rfl⟩
abbrev cc6_stg5_0 : Ref sig .tc := ⟨.vmem, 96, rfl⟩
abbrev cc6_stg5_1 : Ref sig .tc := ⟨.vmem, 97, rfl⟩
abbrev cc6_stg6_0 : Ref sig .tc := ⟨.vmem, 98, rfl⟩
abbrev cc6_stg6_1 : Ref sig .tc := ⟨.vmem, 99, rfl⟩
abbrev cc6_stg7_0 : Ref sig .tc := ⟨.vmem, 100, rfl⟩
abbrev cc6_stg7_1 : Ref sig .tc := ⟨.vmem, 101, rfl⟩
abbrev cc6_stg8_0 : Ref sig .tc := ⟨.vmem, 102, rfl⟩
abbrev cc6_stg8_1 : Ref sig .tc := ⟨.vmem, 103, rfl⟩
abbrev cc6_scratch0 : Ref sig .tc := ⟨.vmem, 104, rfl⟩
abbrev cc6_scratch1 : Ref sig .tc := ⟨.vmem, 105, rfl⟩
abbrev cc7_stg0_0 : Ref sig .tc := ⟨.vmem, 106, rfl⟩
abbrev cc7_stg1_0 : Ref sig .tc := ⟨.vmem, 107, rfl⟩
abbrev cc7_stg1_1 : Ref sig .tc := ⟨.vmem, 108, rfl⟩
abbrev cc7_stg2_0 : Ref sig .tc := ⟨.vmem, 109, rfl⟩
abbrev cc7_stg3_0 : Ref sig .tc := ⟨.vmem, 110, rfl⟩
abbrev cc7_stg3_1 : Ref sig .tc := ⟨.vmem, 111, rfl⟩
abbrev cc7_stg4_0 : Ref sig .tc := ⟨.vmem, 112, rfl⟩
abbrev cc7_stg5_0 : Ref sig .tc := ⟨.vmem, 113, rfl⟩
abbrev cc7_stg5_1 : Ref sig .tc := ⟨.vmem, 114, rfl⟩
abbrev cc7_stg6_0 : Ref sig .tc := ⟨.vmem, 115, rfl⟩
abbrev cc7_stg6_1 : Ref sig .tc := ⟨.vmem, 116, rfl⟩
abbrev cc7_stg7_0 : Ref sig .tc := ⟨.vmem, 117, rfl⟩
abbrev cc7_stg7_1 : Ref sig .tc := ⟨.vmem, 118, rfl⟩
abbrev cc7_stg8_0 : Ref sig .tc := ⟨.vmem, 119, rfl⟩
abbrev cc7_stg8_1 : Ref sig .tc := ⟨.vmem, 120, rfl⟩
abbrev cc7_scratch0 : Ref sig .tc := ⟨.vmem, 121, rfl⟩
abbrev cc7_scratch1 : Ref sig .tc := ⟨.vmem, 122, rfl⟩
abbrev cc8_stg0_0 : Ref sig .tc := ⟨.vmem, 123, rfl⟩
abbrev cc8_stg1_0 : Ref sig .tc := ⟨.vmem, 124, rfl⟩
abbrev cc8_stg1_1 : Ref sig .tc := ⟨.vmem, 125, rfl⟩
abbrev cc8_stg2_0 : Ref sig .tc := ⟨.vmem, 126, rfl⟩
abbrev cc8_stg3_0 : Ref sig .tc := ⟨.vmem, 127, rfl⟩
abbrev cc8_stg3_1 : Ref sig .tc := ⟨.vmem, 128, rfl⟩
abbrev cc8_stg4_0 : Ref sig .tc := ⟨.vmem, 129, rfl⟩
abbrev cc8_stg5_0 : Ref sig .tc := ⟨.vmem, 130, rfl⟩
abbrev cc8_stg5_1 : Ref sig .tc := ⟨.vmem, 131, rfl⟩
abbrev cc8_stg6_0 : Ref sig .tc := ⟨.vmem, 132, rfl⟩
abbrev cc8_stg6_1 : Ref sig .tc := ⟨.vmem, 133, rfl⟩
abbrev cc8_stg7_0 : Ref sig .tc := ⟨.vmem, 134, rfl⟩
abbrev cc8_stg7_1 : Ref sig .tc := ⟨.vmem, 135, rfl⟩
abbrev cc8_stg8_0 : Ref sig .tc := ⟨.vmem, 136, rfl⟩
abbrev cc8_stg8_1 : Ref sig .tc := ⟨.vmem, 137, rfl⟩
abbrev cc8_scratch0 : Ref sig .tc := ⟨.vmem, 138, rfl⟩
abbrev cc8_scratch1 : Ref sig .tc := ⟨.vmem, 139, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem5_0 : DmaSem sig := 41
abbrev cc3_sem5_1 : DmaSem sig := 42
abbrev cc3_sem6_0 : DmaSem sig := 43
abbrev cc3_sem6_1 : DmaSem sig := 44
abbrev cc3_sem7_0 : DmaSem sig := 45
abbrev cc3_sem7_1 : DmaSem sig := 46
abbrev cc3_sem8_0 : DmaSem sig := 47
abbrev cc3_sem8_1 : DmaSem sig := 48
abbrev cc4_sem0_0 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem3_1 : DmaSem sig := 54
abbrev cc4_sem4_0 : DmaSem sig := 55
abbrev cc4_sem5_0 : DmaSem sig := 56
abbrev cc4_sem5_1 : DmaSem sig := 57
abbrev cc4_sem6_0 : DmaSem sig := 58
abbrev cc4_sem6_1 : DmaSem sig := 59
abbrev cc4_sem7_0 : DmaSem sig := 60
abbrev cc4_sem7_1 : DmaSem sig := 61
abbrev cc4_sem8_0 : DmaSem sig := 62
abbrev cc4_sem8_1 : DmaSem sig := 63
abbrev cc5_sem0_0 : DmaSem sig := 64
abbrev cc5_sem1_0 : DmaSem sig := 65
abbrev cc5_sem1_1 : DmaSem sig := 66
abbrev cc5_sem2_0 : DmaSem sig := 67
abbrev cc5_sem3_0 : DmaSem sig := 68
abbrev cc5_sem3_1 : DmaSem sig := 69
abbrev cc5_sem4_0 : DmaSem sig := 70
abbrev cc5_sem5_0 : DmaSem sig := 71
abbrev cc5_sem5_1 : DmaSem sig := 72
abbrev cc5_sem6_0 : DmaSem sig := 73
abbrev cc5_sem6_1 : DmaSem sig := 74
abbrev cc5_sem7_0 : DmaSem sig := 75
abbrev cc5_sem7_1 : DmaSem sig := 76
abbrev cc5_sem8_0 : DmaSem sig := 77
abbrev cc5_sem8_1 : DmaSem sig := 78
abbrev cc6_sem0_0 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem3_1 : DmaSem sig := 84
abbrev cc6_sem4_0 : DmaSem sig := 85
abbrev cc6_sem5_0 : DmaSem sig := 86
abbrev cc6_sem5_1 : DmaSem sig := 87
abbrev cc6_sem6_0 : DmaSem sig := 88
abbrev cc6_sem6_1 : DmaSem sig := 89
abbrev cc6_sem7_0 : DmaSem sig := 90
abbrev cc6_sem7_1 : DmaSem sig := 91
abbrev cc6_sem8_0 : DmaSem sig := 92
abbrev cc6_sem8_1 : DmaSem sig := 93
abbrev cc7_sem0_0 : DmaSem sig := 94
abbrev cc7_sem1_0 : DmaSem sig := 95
abbrev cc7_sem1_1 : DmaSem sig := 96
abbrev cc7_sem2_0 : DmaSem sig := 97
abbrev cc7_sem3_0 : DmaSem sig := 98
abbrev cc7_sem3_1 : DmaSem sig := 99
abbrev cc7_sem4_0 : DmaSem sig := 100
abbrev cc7_sem5_0 : DmaSem sig := 101
abbrev cc7_sem5_1 : DmaSem sig := 102
abbrev cc7_sem6_0 : DmaSem sig := 103
abbrev cc7_sem6_1 : DmaSem sig := 104
abbrev cc7_sem7_0 : DmaSem sig := 105
abbrev cc7_sem7_1 : DmaSem sig := 106
abbrev cc7_sem8_0 : DmaSem sig := 107
abbrev cc7_sem8_1 : DmaSem sig := 108
abbrev cc8_sem0_0 : DmaSem sig := 109
abbrev cc8_sem1_0 : DmaSem sig := 110
abbrev cc8_sem1_1 : DmaSem sig := 111
abbrev cc8_sem2_0 : DmaSem sig := 112
abbrev cc8_sem3_0 : DmaSem sig := 113
abbrev cc8_sem3_1 : DmaSem sig := 114
abbrev cc8_sem4_0 : DmaSem sig := 115
abbrev cc8_sem5_0 : DmaSem sig := 116
abbrev cc8_sem5_1 : DmaSem sig := 117
abbrev cc8_sem6_0 : DmaSem sig := 118
abbrev cc8_sem6_1 : DmaSem sig := 119
abbrev cc8_sem7_0 : DmaSem sig := 120
abbrev cc8_sem7_1 : DmaSem sig := 121
abbrev cc8_sem8_0 : DmaSem sig := 122
abbrev cc8_sem8_1 : DmaSem sig := 123

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def k1_mult1 (i : grid1.Coords) : BitVec 32 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let c0_i32_0 : BitVec 32 := 0#32
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_6 : BitVec 32 := 128#32
  let v20 : BitVec 32 := Scalar.muli v19 c128_i32_6
  v20
def k1_off1 (i : grid1.Coords) (c0_i32_0 : BitVec 32) : Fin 2 → Nat :=
  let c0 : Index := 0#32
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_6 : BitVec 32 := 128#32
  let v20 : BitVec 32 := Scalar.muli v19 c128_i32_6
  let v21 : BitVec 32 := v20
  let v33 : Index := Scalar.indexCast v21
  ![0, v33.toNat]
def k1_mult2 (i : grid1.Coords) : BitVec 32 :=
  let c0_i32_17 : BitVec 32 := 0#32
  let arg0 : BitVec 32 := BitVec.ofNat 32 (i 0).val
  let v47 : BitVec 32 := Scalar.addi c0_i32_17 arg0
  let c2_i32_18 : BitVec 32 := 2#32
  let v48 : BitVec 32 := Scalar.muli v47 c2_i32_18
  let c1_i32_19 : BitVec 32 := 1#32
  let v49 : BitVec 32 := Scalar.addi v48 c1_i32_19
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c128_i32_20 : BitVec 32 := 128#32
  let c0_i32_23 : BitVec 32 := 0#32
  let v56 : BitVec 1 := Scalar.cmpi .sgt c128_i32_20 c0_i32_23
  let v57 : BitVec 32 := Scalar.extui v56
  let c0_i32_24 : BitVec 32 := 0#32
  let v58 : BitVec 1 := Scalar.cmpi .slt c128_i32_20 c0_i32_24
  let v59 : BitVec 32 := Scalar.extui v58
  let v60 : BitVec 32 := Scalar.subi v57 v59
  let v61 : BitVec 1 := Scalar.cmpi .ne v55 v60
  let v62 : BitVec 32 := Scalar.remsi v49 c128_i32_20
  let c0_i32_25 : BitVec 32 := 0#32
  let v63 : BitVec 1 := Scalar.cmpi .ne v62 c0_i32_25
  let v64 : BitVec 1 := Scalar.andi v61 v63
  let v50 : BitVec 32 := Scalar.divsi v49 c128_i32_20
  let c1_i32_26 : BitVec 32 := 1#32
  let v65 : BitVec 32 := Scalar.subi v50 c1_i32_26
  let v66 : BitVec 32 := Scalar.select v64 v65 v50
  let c128_i32_27 : BitVec 32 := 128#32
  let v67 : BitVec 32 := Scalar.muli v66 c128_i32_27
  v67
@[reducible] def k1_t1_loop : Scf.Loop 32 :=
  let c0_i32_46 : BitVec 32 := 0#32
  let c8_i32 : BitVec 32 := 8#32
  let v114 : BitVec 32 := Scalar.addi c0_i32_46 c8_i32
  let c1_i32_47 : BitVec 32 := 1#32
  ⟨c0_i32_46, v114, c1_i32_47⟩
def k1_mult3 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c448_i32 : BitVec 32 := 448#32
  let v126 : BitVec 32 := Scalar.muli arg12 c448_i32
  v126
def k1_off2 (k1_t1 : Fin k1_t1_loop.trips) : Fin 2 → Nat :=
  let c0_i32_46 : BitVec 32 := 0#32
  let c1_i32_47 : BitVec 32 := 1#32
  let arg12 : BitVec 32 := Scf.iv c0_i32_46 c1_i32_47 k1_t1
  let c448_i32 : BitVec 32 := 448#32
  let v126 : BitVec 32 := Scalar.muli arg12 c448_i32
  let v127 : BitVec 32 := v126
  let v128 : Index := Scalar.indexCast v127
  let c0_57 : Index := 0#32
  ![v128.toNat, 0]
def k1_mult4 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let c0_i32_64 : BitVec 32 := 0#32
  let v136 : BitVec 32 := Scalar.addi v135 c0_i32_64
  let c8_i32_65 : BitVec 32 := 8#32
  let v137 : BitVec 32 := Scalar.muli v136 c8_i32_65
  v137
def k1_off3 (k1_t1 : Fin k1_t1_loop.trips) (c0_i32_64 : BitVec 32) : Fin 2 → Nat :=
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let c8_i32_65 : BitVec 32 := 8#32
  let v137 : BitVec 32 := Scalar.muli v136 c8_i32_65
  let v138 : BitVec 32 := v137
  let v139 : Index := Scalar.indexCast v138
  let c0_66 : Index := 0#32
  ![v139.toNat, 0]
def k1_off4 (k1_t1 : Fin k1_t1_loop.trips) (c0_i32_64 : BitVec 32) : Fin 4 → Nat :=
  let c0_67 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v144 : Index := Scalar.indexCast v136
  let c0_68 : Index := 0#32
  let c0_69 : Index := 0#32
  ![0, v144.toNat, 0, 0]
def k1_off5 (k1_t1 : Fin k1_t1_loop.trips) (c0_i32_64 : BitVec 32) : Fin 5 → Nat :=
  let c0_169 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v311 : Index := Scalar.indexCast v136
  let c0_170 : Index := 0#32
  let c0_171 : Index := 0#32
  let c0_172 : Index := 0#32
  ![0, v311.toNat, 0, 0, 0]
def k1_off6 (k1_t1 : Fin k1_t1_loop.trips) (c0_i32_64 : BitVec 32) : Fin 5 → Nat :=
  let c0_173 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v320 : Index := Scalar.indexCast v136
  let c1_174 : Index := 1#32
  let c0_175 : Index := 0#32
  let c0_176 : Index := 0#32
  ![0, v320.toNat, 1, 0, 0]
def k1_off7 (k1_t1 : Fin k1_t1_loop.trips) (c0_i32_64 : BitVec 32) : Fin 5 → Nat :=
  let c0_177 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v329 : Index := Scalar.indexCast v136
  let c2_178 : Index := 2#32
  let c0_179 : Index := 0#32
  let c0_180 : Index := 0#32
  ![0, v329.toNat, 2, 0, 0]
def k1_off8 (k1_t1 : Fin k1_t1_loop.trips) (c0_i32_64 : BitVec 32) : Fin 5 → Nat :=
  let c0_181 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v338 : Index := Scalar.indexCast v136
  let c3_182 : Index := 3#32
  let c0_183 : Index := 0#32
  let c0_184 : Index := 0#32
  ![0, v338.toNat, 3, 0, 0]
def k1_off9 (k1_t1 : Fin k1_t1_loop.trips) (c0_i32_64 : BitVec 32) : Fin 5 → Nat :=
  let c0_185 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v347 : Index := Scalar.indexCast v136
  let c4 : Index := 4#32
  let c0_186 : Index := 0#32
  let c0_187 : Index := 0#32
  ![0, v347.toNat, 4, 0, 0]
def k1_off10 (k1_t1 : Fin k1_t1_loop.trips) (c0_i32_64 : BitVec 32) : Fin 5 → Nat :=
  let c0_188 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v356 : Index := Scalar.indexCast v136
  let c5 : Index := 5#32
  let c0_189 : Index := 0#32
  let c0_190 : Index := 0#32
  ![0, v356.toNat, 5, 0, 0]
def k1_off11 (k1_t1 : Fin k1_t1_loop.trips) (c0_i32_64 : BitVec 32) : Fin 5 → Nat :=
  let c0_191 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v365 : Index := Scalar.indexCast v136
  let c6 : Index := 6#32
  let c0_192 : Index := 0#32
  let c0_193 : Index := 0#32
  ![0, v365.toNat, 6, 0, 0]
def k1_off12 (k1_t1 : Fin k1_t1_loop.trips) (c0_i32_64 : BitVec 32) : Fin 5 → Nat :=
  let c0_194 : Index := 0#32
  let c0_i32_46 : BitVec 32 := 0#32
  let c1_i32_47 : BitVec 32 := 1#32
  let arg12 : BitVec 32 := Scf.iv c0_i32_46 c1_i32_47 k1_t1
  let c7_i32 : BitVec 32 := 7#32
  let v135 : BitVec 32 := Scalar.muli arg12 c7_i32
  let v136 : BitVec 32 := Scalar.addi v135 c0_i32_64
  let v374 : Index := Scalar.indexCast v136
  let c7 : Index := 7#32
  let c0_195 : Index := 0#32
  let c0_196 : Index := 0#32
  ![0, v374.toNat, 7, 0, 0]
def k1_mult5 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_197 : BitVec 32 := 7#32
  let v380 : BitVec 32 := Scalar.muli arg12 c7_i32_197
  let c1_i32_198 : BitVec 32 := 1#32
  let v381 : BitVec 32 := Scalar.addi v380 c1_i32_198
  let c8_i32_199 : BitVec 32 := 8#32
  let v382 : BitVec 32 := Scalar.muli v381 c8_i32_199
  v382
def k1_mult6 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_341 : BitVec 32 := 7#32
  let v625 : BitVec 32 := Scalar.muli arg12 c7_i32_341
  let c2_i32_342 : BitVec 32 := 2#32
  let v626 : BitVec 32 := Scalar.addi v625 c2_i32_342
  let c8_i32_343 : BitVec 32 := 8#32
  let v627 : BitVec 32 := Scalar.muli v626 c8_i32_343
  v627
def k1_mult7 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_485 : BitVec 32 := 7#32
  let v870 : BitVec 32 := Scalar.muli arg12 c7_i32_485
  let c3_i32 : BitVec 32 := 3#32
  let v871 : BitVec 32 := Scalar.addi v870 c3_i32
  let c8_i32_486 : BitVec 32 := 8#32
  let v872 : BitVec 32 := Scalar.muli v871 c8_i32_486
  v872
def k1_mult8 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_628 : BitVec 32 := 7#32
  let v1115 : BitVec 32 := Scalar.muli arg12 c7_i32_628
  let c4_i32_629 : BitVec 32 := 4#32
  let v1116 : BitVec 32 := Scalar.addi v1115 c4_i32_629
  let c8_i32_630 : BitVec 32 := 8#32
  let v1117 : BitVec 32 := Scalar.muli v1116 c8_i32_630
  v1117
def k1_mult9 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_772 : BitVec 32 := 7#32
  let v1360 : BitVec 32 := Scalar.muli arg12 c7_i32_772
  let c5_i32 : BitVec 32 := 5#32
  let v1361 : BitVec 32 := Scalar.addi v1360 c5_i32
  let c8_i32_773 : BitVec 32 := 8#32
  let v1362 : BitVec 32 := Scalar.muli v1361 c8_i32_773
  v1362
def k1_mult10 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_915 : BitVec 32 := 7#32
  let v1605 : BitVec 32 := Scalar.muli arg12 c7_i32_915
  let c6_i32 : BitVec 32 := 6#32
  let v1606 : BitVec 32 := Scalar.addi v1605 c6_i32
  let c8_i32_916 : BitVec 32 := 8#32
  let v1607 : BitVec 32 := Scalar.muli v1606 c8_i32_916
  v1607
def k1_mult11 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let c0_i32_1062 : BitVec 32 := 0#32
  let v1853 : BitVec 32 := Scalar.addi v1852 c0_i32_1062
  let c8_i32_1063 : BitVec 32 := 8#32
  let v1854 : BitVec 32 := Scalar.muli v1853 c8_i32_1063
  v1854
def k1_off13 (k1_t1 : Fin k1_t1_loop.trips) (c0_i32_1062 : BitVec 32) : Fin 2 → Nat :=
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let c8_i32_1063 : BitVec 32 := 8#32
  let v1854 : BitVec 32 := Scalar.muli v1853 c8_i32_1063
  let v1855 : BitVec 32 := v1854
  let v1856 : Index := Scalar.indexCast v1855
  let c128_1064 : Index := 128#32
  ![v1856.toNat, 128]
def k1_off14 (k1_t1 : Fin k1_t1_loop.trips) (c0_i32_1062 : BitVec 32) : Fin 4 → Nat :=
  let c1_1066 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v1861 : Index := Scalar.indexCast v1853
  let c0_1067 : Index := 0#32
  let c0_1068 : Index := 0#32
  ![1, v1861.toNat, 0, 0]
def k1_off15 (k1_t1 : Fin k1_t1_loop.trips) (c0_i32_1062 : BitVec 32) : Fin 5 → Nat :=
  let c1_1173 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2028 : Index := Scalar.indexCast v1853
  let c0_1174 : Index := 0#32
  let c0_1175 : Index := 0#32
  let c0_1176 : Index := 0#32
  ![1, v2028.toNat, 0, 0, 0]
def k1_off16 (k1_t1 : Fin k1_t1_loop.trips) (c0_i32_1062 : BitVec 32) : Fin 5 → Nat :=
  let c1_1177 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2037 : Index := Scalar.indexCast v1853
  let c1_1178 : Index := 1#32
  let c0_1179 : Index := 0#32
  let c0_1180 : Index := 0#32
  ![1, v2037.toNat, 1, 0, 0]
def k1_off17 (k1_t1 : Fin k1_t1_loop.trips) (c0_i32_1062 : BitVec 32) : Fin 5 → Nat :=
  let c1_1181 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2046 : Index := Scalar.indexCast v1853
  let c2_1182 : Index := 2#32
  let c0_1183 : Index := 0#32
  let c0_1184 : Index := 0#32
  ![1, v2046.toNat, 2, 0, 0]
def k1_off18 (k1_t1 : Fin k1_t1_loop.trips) (c0_i32_1062 : BitVec 32) : Fin 5 → Nat :=
  let c1_1185 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2055 : Index := Scalar.indexCast v1853
  let c3_1186 : Index := 3#32
  let c0_1187 : Index := 0#32
  let c0_1188 : Index := 0#32
  ![1, v2055.toNat, 3, 0, 0]
def k1_off19 (k1_t1 : Fin k1_t1_loop.trips) (c0_i32_1062 : BitVec 32) : Fin 5 → Nat :=
  let c1_1189 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2064 : Index := Scalar.indexCast v1853
  let c4_1190 : Index := 4#32
  let c0_1191 : Index := 0#32
  let c0_1192 : Index := 0#32
  ![1, v2064.toNat, 4, 0, 0]
def k1_off20 (k1_t1 : Fin k1_t1_loop.trips) (c0_i32_1062 : BitVec 32) : Fin 5 → Nat :=
  let c1_1193 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2073 : Index := Scalar.indexCast v1853
  let c5_1194 : Index := 5#32
  let c0_1195 : Index := 0#32
  let c0_1196 : Index := 0#32
  ![1, v2073.toNat, 5, 0, 0]
def k1_off21 (k1_t1 : Fin k1_t1_loop.trips) (c0_i32_1062 : BitVec 32) : Fin 5 → Nat :=
  let c1_1197 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2082 : Index := Scalar.indexCast v1853
  let c6_1198 : Index := 6#32
  let c0_1199 : Index := 0#32
  let c0_1200 : Index := 0#32
  ![1, v2082.toNat, 6, 0, 0]
def k1_off22 (k1_t1 : Fin k1_t1_loop.trips) (c0_i32_1062 : BitVec 32) : Fin 5 → Nat :=
  let c1_1201 : Index := 1#32
  let c0_i32_46 : BitVec 32 := 0#32
  let c1_i32_47 : BitVec 32 := 1#32
  let arg12 : BitVec 32 := Scf.iv c0_i32_46 c1_i32_47 k1_t1
  let c7_i32_1061 : BitVec 32 := 7#32
  let v1852 : BitVec 32 := Scalar.muli arg12 c7_i32_1061
  let v1853 : BitVec 32 := Scalar.addi v1852 c0_i32_1062
  let v2091 : Index := Scalar.indexCast v1853
  let c7_1202 : Index := 7#32
  let c0_1203 : Index := 0#32
  let c0_1204 : Index := 0#32
  ![1, v2091.toNat, 7, 0, 0]
def k1_mult12 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1205 : BitVec 32 := 7#32
  let v2097 : BitVec 32 := Scalar.muli arg12 c7_i32_1205
  let c1_i32_1206 : BitVec 32 := 1#32
  let v2098 : BitVec 32 := Scalar.addi v2097 c1_i32_1206
  let c8_i32_1207 : BitVec 32 := 8#32
  let v2099 : BitVec 32 := Scalar.muli v2098 c8_i32_1207
  v2099
def k1_mult13 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1349 : BitVec 32 := 7#32
  let v2342 : BitVec 32 := Scalar.muli arg12 c7_i32_1349
  let c2_i32_1350 : BitVec 32 := 2#32
  let v2343 : BitVec 32 := Scalar.addi v2342 c2_i32_1350
  let c8_i32_1351 : BitVec 32 := 8#32
  let v2344 : BitVec 32 := Scalar.muli v2343 c8_i32_1351
  v2344
def k1_mult14 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1493 : BitVec 32 := 7#32
  let v2587 : BitVec 32 := Scalar.muli arg12 c7_i32_1493
  let c3_i32_1494 : BitVec 32 := 3#32
  let v2588 : BitVec 32 := Scalar.addi v2587 c3_i32_1494
  let c8_i32_1495 : BitVec 32 := 8#32
  let v2589 : BitVec 32 := Scalar.muli v2588 c8_i32_1495
  v2589
def k1_mult15 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1637 : BitVec 32 := 7#32
  let v2832 : BitVec 32 := Scalar.muli arg12 c7_i32_1637
  let c4_i32_1638 : BitVec 32 := 4#32
  let v2833 : BitVec 32 := Scalar.addi v2832 c4_i32_1638
  let c8_i32_1639 : BitVec 32 := 8#32
  let v2834 : BitVec 32 := Scalar.muli v2833 c8_i32_1639
  v2834
def k1_mult16 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1781 : BitVec 32 := 7#32
  let v3077 : BitVec 32 := Scalar.muli arg12 c7_i32_1781
  let c5_i32_1782 : BitVec 32 := 5#32
  let v3078 : BitVec 32 := Scalar.addi v3077 c5_i32_1782
  let c8_i32_1783 : BitVec 32 := 8#32
  let v3079 : BitVec 32 := Scalar.muli v3078 c8_i32_1783
  v3079
def k1_mult17 (k1_t1 : Fin k1_t1_loop.trips) : BitVec 32 :=
  let c0_i32_46 : BitVec 32 := 0#32
  let c1_i32_47 : BitVec 32 := 1#32
  let arg12 : BitVec 32 := Scf.iv c0_i32_46 c1_i32_47 k1_t1
  let c7_i32_1925 : BitVec 32 := 7#32
  let v3322 : BitVec 32 := Scalar.muli arg12 c7_i32_1925
  let c6_i32_1926 : BitVec 32 := 6#32
  let v3323 : BitVec 32 := Scalar.addi v3322 c6_i32_1926
  let c8_i32_1927 : BitVec 32 := 8#32
  let v3324 : BitVec 32 := Scalar.muli v3323 c8_i32_1927
  v3324
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc1_transform_4 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_5 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_6 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S3584x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x256 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x256x448 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x4x2x8x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x56x8x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x56x8x128 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def k2_mult1 (i : grid2.Coords) : BitVec 32 :=
  let c10_i32 : BitVec 32 := 10#32
  let arg0 : BitVec 32 := BitVec.ofNat 32 (i 0).val
  let v0 : BitVec 32 := Scalar.addi c10_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k2_off1 (i : grid2.Coords) (c0_i32 : BitVec 32) : Fin 2 → Nat :=
  let c0 : Index := 0#32
  let c10_i32 : BitVec 32 := 10#32
  let arg0 : BitVec 32 := BitVec.ofNat 32 (i 0).val
  let v0 : BitVec 32 := Scalar.addi c10_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k2_mult2 (i : grid2.Coords) : BitVec 32 :=
  let c10_i32_16 : BitVec 32 := 10#32
  let arg0 : BitVec 32 := BitVec.ofNat 32 (i 0).val
  let v47 : BitVec 32 := Scalar.addi c10_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k2_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k2_mult3 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c448_i32 : BitVec 32 := 448#32
  let v126 : BitVec 32 := Scalar.muli arg12 c448_i32
  v126
def k2_off2 (k2_t1 : Fin k2_t1_loop.trips) : Fin 2 → Nat :=
  let c0_i32_45 : BitVec 32 := 0#32
  let c1_i32_46 : BitVec 32 := 1#32
  let arg12 : BitVec 32 := Scf.iv c0_i32_45 c1_i32_46 k2_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k2_mult4 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k2_off3 (k2_t1 : Fin k2_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k2_off4 (k2_t1 : Fin k2_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k2_off5 (k2_t1 : Fin k2_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k2_off6 (k2_t1 : Fin k2_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k2_off7 (k2_t1 : Fin k2_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k2_off8 (k2_t1 : Fin k2_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k2_off9 (k2_t1 : Fin k2_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k2_off10 (k2_t1 : Fin k2_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k2_off11 (k2_t1 : Fin k2_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k2_off12 (k2_t1 : Fin k2_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k2_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k2_mult5 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k2_mult6 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k2_mult7 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k2_mult8 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k2_mult9 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k2_mult10 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k2_mult11 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k2_off13 (k2_t1 : Fin k2_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k2_off14 (k2_t1 : Fin k2_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k2_off15 (k2_t1 : Fin k2_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k2_off16 (k2_t1 : Fin k2_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k2_off17 (k2_t1 : Fin k2_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k2_off18 (k2_t1 : Fin k2_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k2_off19 (k2_t1 : Fin k2_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k2_off20 (k2_t1 : Fin k2_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k2_off21 (k2_t1 : Fin k2_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k2_off22 (k2_t1 : Fin k2_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k2_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k2_mult12 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k2_mult13 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k2_mult14 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k2_mult15 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k2_mult16 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k2_mult17 (k2_t1 : Fin k2_t1_loop.trips) : BitVec 32 :=
  let c0_i32_45 : BitVec 32 := 0#32
  let c1_i32_46 : BitVec 32 := 1#32
  let arg12 : BitVec 32 := Scf.iv c0_i32_45 c1_i32_46 k2_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![c0_i32.toNat, v0.toNat, c0_i32_0.toNat]

def cc2_transform_4 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc2_transform_5 (i : grid2.Coords) : Fin 3 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![v0.toNat, c0_i32.toNat, c0_i32_0.toNat]

def cc2_transform_6 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S3584x1536 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1536x256 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1536x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x256x448 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2x4x2x8x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2x56x8x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2x56x8x128 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def k3_mult1 (i : grid3.Coords) : BitVec 32 :=
  let c20_i32 : BitVec 32 := 20#32
  let arg0 : BitVec 32 := BitVec.ofNat 32 (i 0).val
  let v0 : BitVec 32 := Scalar.addi c20_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k3_off1 (i : grid3.Coords) (c0_i32 : BitVec 32) : Fin 2 → Nat :=
  let c0 : Index := 0#32
  let c20_i32 : BitVec 32 := 20#32
  let arg0 : BitVec 32 := BitVec.ofNat 32 (i 0).val
  let v0 : BitVec 32 := Scalar.addi c20_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k3_mult2 (i : grid3.Coords) : BitVec 32 :=
  let c20_i32_16 : BitVec 32 := 20#32
  let arg0 : BitVec 32 := BitVec.ofNat 32 (i 0).val
  let v47 : BitVec 32 := Scalar.addi c20_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k3_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k3_mult3 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c448_i32 : BitVec 32 := 448#32
  let v126 : BitVec 32 := Scalar.muli arg12 c448_i32
  v126
def k3_off2 (k3_t1 : Fin k3_t1_loop.trips) : Fin 2 → Nat :=
  let c0_i32_45 : BitVec 32 := 0#32
  let c1_i32_46 : BitVec 32 := 1#32
  let arg12 : BitVec 32 := Scf.iv c0_i32_45 c1_i32_46 k3_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k3_mult4 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k3_off3 (k3_t1 : Fin k3_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k3_off4 (k3_t1 : Fin k3_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k3_off5 (k3_t1 : Fin k3_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k3_off6 (k3_t1 : Fin k3_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k3_off7 (k3_t1 : Fin k3_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k3_off8 (k3_t1 : Fin k3_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k3_off9 (k3_t1 : Fin k3_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k3_off10 (k3_t1 : Fin k3_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k3_off11 (k3_t1 : Fin k3_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k3_off12 (k3_t1 : Fin k3_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k3_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k3_mult5 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k3_mult6 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k3_mult7 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k3_mult8 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k3_mult9 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k3_mult10 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k3_mult11 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k3_off13 (k3_t1 : Fin k3_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k3_off14 (k3_t1 : Fin k3_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k3_off15 (k3_t1 : Fin k3_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k3_off16 (k3_t1 : Fin k3_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k3_off17 (k3_t1 : Fin k3_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k3_off18 (k3_t1 : Fin k3_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k3_off19 (k3_t1 : Fin k3_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k3_off20 (k3_t1 : Fin k3_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k3_off21 (k3_t1 : Fin k3_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k3_off22 (k3_t1 : Fin k3_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k3_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k3_mult12 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k3_mult13 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k3_mult14 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k3_mult15 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k3_mult16 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k3_mult17 (k3_t1 : Fin k3_t1_loop.trips) : BitVec 32 :=
  let c0_i32_45 : BitVec 32 := 0#32
  let c1_i32_46 : BitVec 32 := 1#32
  let arg12 : BitVec 32 := Scf.iv c0_i32_45 c1_i32_46 k3_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, v0.toNat, c0_i32_0.toNat]

def cc3_transform_4 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc3_transform_5 (i : grid3.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc3_transform_6 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_7 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S3584x1536 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1536x256 .fp8e5m2 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1536x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2x256x448 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2x4x2x8x128 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2x56x8x8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2x56x8x128 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def k4_mult1 (i : grid4.Coords) : BitVec 32 :=
  let c30_i32 : BitVec 32 := 30#32
  let arg0 : BitVec 32 := BitVec.ofNat 32 (i 0).val
  let v0 : BitVec 32 := Scalar.addi c30_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k4_off1 (i : grid4.Coords) (c0_i32 : BitVec 32) : Fin 2 → Nat :=
  let c0 : Index := 0#32
  let c30_i32 : BitVec 32 := 30#32
  let arg0 : BitVec 32 := BitVec.ofNat 32 (i 0).val
  let v0 : BitVec 32 := Scalar.addi c30_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k4_mult2 (i : grid4.Coords) : BitVec 32 :=
  let c30_i32_16 : BitVec 32 := 30#32
  let arg0 : BitVec 32 := BitVec.ofNat 32 (i 0).val
  let v47 : BitVec 32 := Scalar.addi c30_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k4_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k4_mult3 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c448_i32 : BitVec 32 := 448#32
  let v126 : BitVec 32 := Scalar.muli arg12 c448_i32
  v126
def k4_off2 (k4_t1 : Fin k4_t1_loop.trips) : Fin 2 → Nat :=
  let c0_i32_45 : BitVec 32 := 0#32
  let c1_i32_46 : BitVec 32 := 1#32
  let arg12 : BitVec 32 := Scf.iv c0_i32_45 c1_i32_46 k4_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k4_mult4 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k4_off3 (k4_t1 : Fin k4_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k4_off4 (k4_t1 : Fin k4_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k4_off5 (k4_t1 : Fin k4_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k4_off6 (k4_t1 : Fin k4_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k4_off7 (k4_t1 : Fin k4_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k4_off8 (k4_t1 : Fin k4_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k4_off9 (k4_t1 : Fin k4_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k4_off10 (k4_t1 : Fin k4_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k4_off11 (k4_t1 : Fin k4_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k4_off12 (k4_t1 : Fin k4_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k4_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k4_mult5 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k4_mult6 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k4_mult7 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k4_mult8 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k4_mult9 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k4_mult10 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k4_mult11 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k4_off13 (k4_t1 : Fin k4_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k4_off14 (k4_t1 : Fin k4_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k4_off15 (k4_t1 : Fin k4_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k4_off16 (k4_t1 : Fin k4_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k4_off17 (k4_t1 : Fin k4_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k4_off18 (k4_t1 : Fin k4_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k4_off19 (k4_t1 : Fin k4_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k4_off20 (k4_t1 : Fin k4_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k4_off21 (k4_t1 : Fin k4_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k4_off22 (k4_t1 : Fin k4_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k4_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k4_mult12 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k4_mult13 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k4_mult14 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k4_mult15 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k4_mult16 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k4_mult17 (k4_t1 : Fin k4_t1_loop.trips) : BitVec 32 :=
  let c0_i32_45 : BitVec 32 := 0#32
  let c1_i32_46 : BitVec 32 := 1#32
  let arg12 : BitVec 32 := Scf.iv c0_i32_45 c1_i32_46 k4_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  let c0_i32_1 : BitVec 32 := 0#32
  ![c0_i32.toNat, v0.toNat, c0_i32_0.toNat]

def cc4_transform_4 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc4_transform_5 (i : grid4.Coords) : Fin 3 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  let c0_i32_1 : BitVec 32 := 0#32
  ![v0.toNat, c0_i32.toNat, c0_i32_0.toNat]

def cc4_transform_6 (i : grid4.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc4_transform_7 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S3584x1536 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1536x256 .fp8e5m2 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1536x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2x256x448 .i8 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S2x4x2x8x128 .i32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x1x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2x56x8x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2x56x8x128 .i32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def k5_mult1 (i : grid5.Coords) : BitVec 32 :=
  let c40_i32 : BitVec 32 := 40#32
  let arg0 : BitVec 32 := BitVec.ofNat 32 (i 0).val
  let v0 : BitVec 32 := Scalar.addi c40_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k5_off1 (i : grid5.Coords) (c0_i32 : BitVec 32) : Fin 2 → Nat :=
  let c0 : Index := 0#32
  let c40_i32 : BitVec 32 := 40#32
  let arg0 : BitVec 32 := BitVec.ofNat 32 (i 0).val
  let v0 : BitVec 32 := Scalar.addi c40_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k5_mult2 (i : grid5.Coords) : BitVec 32 :=
  let c40_i32_16 : BitVec 32 := 40#32
  let arg0 : BitVec 32 := BitVec.ofNat 32 (i 0).val
  let v47 : BitVec 32 := Scalar.addi c40_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k5_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k5_mult3 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c448_i32 : BitVec 32 := 448#32
  let v126 : BitVec 32 := Scalar.muli arg12 c448_i32
  v126
def k5_off2 (k5_t1 : Fin k5_t1_loop.trips) : Fin 2 → Nat :=
  let c0_i32_45 : BitVec 32 := 0#32
  let c1_i32_46 : BitVec 32 := 1#32
  let arg12 : BitVec 32 := Scf.iv c0_i32_45 c1_i32_46 k5_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k5_mult4 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k5_off3 (k5_t1 : Fin k5_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k5_off4 (k5_t1 : Fin k5_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k5_off5 (k5_t1 : Fin k5_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k5_off6 (k5_t1 : Fin k5_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k5_off7 (k5_t1 : Fin k5_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k5_off8 (k5_t1 : Fin k5_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k5_off9 (k5_t1 : Fin k5_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k5_off10 (k5_t1 : Fin k5_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k5_off11 (k5_t1 : Fin k5_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k5_off12 (k5_t1 : Fin k5_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k5_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k5_mult5 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k5_mult6 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k5_mult7 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k5_mult8 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k5_mult9 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k5_mult10 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k5_mult11 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k5_off13 (k5_t1 : Fin k5_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k5_off14 (k5_t1 : Fin k5_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k5_off15 (k5_t1 : Fin k5_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k5_off16 (k5_t1 : Fin k5_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k5_off17 (k5_t1 : Fin k5_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k5_off18 (k5_t1 : Fin k5_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k5_off19 (k5_t1 : Fin k5_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k5_off20 (k5_t1 : Fin k5_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k5_off21 (k5_t1 : Fin k5_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k5_off22 (k5_t1 : Fin k5_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k5_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k5_mult12 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k5_mult13 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k5_mult14 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k5_mult15 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k5_mult16 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k5_mult17 (k5_t1 : Fin k5_t1_loop.trips) : BitVec 32 :=
  let c0_i32_45 : BitVec 32 := 0#32
  let c1_i32_46 : BitVec 32 := 1#32
  let arg12 : BitVec 32 := Scf.iv c0_i32_45 c1_i32_46 k5_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, v0.toNat, c0_i32_0.toNat]

def cc5_transform_4 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc5_transform_5 (i : grid5.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc5_transform_6 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc5_transform_7 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 1 → Memref sig .tc .vmem S3584x1536 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1536x256 .fp8e5m2 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1536x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2x256x448 .i8 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S2x4x2x8x128 .i32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x1x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2x56x8x8x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2x56x8x128 .i32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def k6_mult1 (i : grid6.Coords) : BitVec 32 :=
  let c50_i32 : BitVec 32 := 50#32
  let arg0 : BitVec 32 := BitVec.ofNat 32 (i 0).val
  let v0 : BitVec 32 := Scalar.addi c50_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k6_off1 (i : grid6.Coords) (c0_i32 : BitVec 32) : Fin 2 → Nat :=
  let c0 : Index := 0#32
  let c50_i32 : BitVec 32 := 50#32
  let arg0 : BitVec 32 := BitVec.ofNat 32 (i 0).val
  let v0 : BitVec 32 := Scalar.addi c50_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k6_mult2 (i : grid6.Coords) : BitVec 32 :=
  let c50_i32_16 : BitVec 32 := 50#32
  let arg0 : BitVec 32 := BitVec.ofNat 32 (i 0).val
  let v47 : BitVec 32 := Scalar.addi c50_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k6_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k6_mult3 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c448_i32 : BitVec 32 := 448#32
  let v126 : BitVec 32 := Scalar.muli arg12 c448_i32
  v126
def k6_off2 (k6_t1 : Fin k6_t1_loop.trips) : Fin 2 → Nat :=
  let c0_i32_45 : BitVec 32 := 0#32
  let c1_i32_46 : BitVec 32 := 1#32
  let arg12 : BitVec 32 := Scf.iv c0_i32_45 c1_i32_46 k6_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k6_mult4 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k6_off3 (k6_t1 : Fin k6_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k6_off4 (k6_t1 : Fin k6_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k6_off5 (k6_t1 : Fin k6_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k6_off6 (k6_t1 : Fin k6_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k6_off7 (k6_t1 : Fin k6_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k6_off8 (k6_t1 : Fin k6_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k6_off9 (k6_t1 : Fin k6_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k6_off10 (k6_t1 : Fin k6_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k6_off11 (k6_t1 : Fin k6_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k6_off12 (k6_t1 : Fin k6_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k6_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k6_mult5 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k6_mult6 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k6_mult7 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k6_mult8 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k6_mult9 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k6_mult10 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k6_mult11 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k6_off13 (k6_t1 : Fin k6_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k6_off14 (k6_t1 : Fin k6_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k6_off15 (k6_t1 : Fin k6_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k6_off16 (k6_t1 : Fin k6_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k6_off17 (k6_t1 : Fin k6_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k6_off18 (k6_t1 : Fin k6_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k6_off19 (k6_t1 : Fin k6_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k6_off20 (k6_t1 : Fin k6_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k6_off21 (k6_t1 : Fin k6_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k6_off22 (k6_t1 : Fin k6_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k6_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k6_mult12 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k6_mult13 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k6_mult14 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k6_mult15 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k6_mult16 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k6_mult17 (k6_t1 : Fin k6_t1_loop.trips) : BitVec 32 :=
  let c0_i32_45 : BitVec 32 := 0#32
  let c1_i32_46 : BitVec 32 := 1#32
  let arg12 : BitVec 32 := Scf.iv c0_i32_45 c1_i32_46 k6_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  let c0_i32_1 : BitVec 32 := 0#32
  ![c0_i32.toNat, v0.toNat, c0_i32_0.toNat]

def cc6_transform_4 (i : grid6.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc6_transform_5 (i : grid6.Coords) : Fin 3 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  let c0_i32_1 : BitVec 32 := 0#32
  ![v0.toNat, c0_i32.toNat, c0_i32_0.toNat]

def cc6_transform_6 (i : grid6.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc6_transform_7 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 1 → Memref sig .tc .vmem S3584x1536 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S1536x256 .fp8e5m2 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1536x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2x256x448 .i8 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S2x4x2x8x128 .i32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x1x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2x56x8x8x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2x56x8x128 .i32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x1x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![8], ![false]⟩

def k7_mult1 (i : grid7.Coords) : BitVec 32 :=
  let c60_i32 : BitVec 32 := 60#32
  let arg0 : BitVec 32 := BitVec.ofNat 32 (i 0).val
  let v0 : BitVec 32 := Scalar.addi c60_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k7_off1 (i : grid7.Coords) (c0_i32 : BitVec 32) : Fin 2 → Nat :=
  let c0 : Index := 0#32
  let c60_i32 : BitVec 32 := 60#32
  let arg0 : BitVec 32 := BitVec.ofNat 32 (i 0).val
  let v0 : BitVec 32 := Scalar.addi c60_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k7_mult2 (i : grid7.Coords) : BitVec 32 :=
  let c60_i32_16 : BitVec 32 := 60#32
  let arg0 : BitVec 32 := BitVec.ofNat 32 (i 0).val
  let v47 : BitVec 32 := Scalar.addi c60_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k7_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k7_mult3 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c448_i32 : BitVec 32 := 448#32
  let v126 : BitVec 32 := Scalar.muli arg12 c448_i32
  v126
def k7_off2 (k7_t1 : Fin k7_t1_loop.trips) : Fin 2 → Nat :=
  let c0_i32_45 : BitVec 32 := 0#32
  let c1_i32_46 : BitVec 32 := 1#32
  let arg12 : BitVec 32 := Scf.iv c0_i32_45 c1_i32_46 k7_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k7_mult4 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k7_off3 (k7_t1 : Fin k7_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k7_off4 (k7_t1 : Fin k7_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k7_off5 (k7_t1 : Fin k7_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k7_off6 (k7_t1 : Fin k7_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k7_off7 (k7_t1 : Fin k7_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k7_off8 (k7_t1 : Fin k7_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k7_off9 (k7_t1 : Fin k7_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k7_off10 (k7_t1 : Fin k7_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k7_off11 (k7_t1 : Fin k7_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k7_off12 (k7_t1 : Fin k7_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k7_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k7_mult5 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k7_mult6 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k7_mult7 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k7_mult8 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k7_mult9 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k7_mult10 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k7_mult11 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k7_off13 (k7_t1 : Fin k7_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k7_off14 (k7_t1 : Fin k7_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k7_off15 (k7_t1 : Fin k7_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k7_off16 (k7_t1 : Fin k7_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k7_off17 (k7_t1 : Fin k7_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k7_off18 (k7_t1 : Fin k7_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k7_off19 (k7_t1 : Fin k7_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k7_off20 (k7_t1 : Fin k7_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k7_off21 (k7_t1 : Fin k7_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k7_off22 (k7_t1 : Fin k7_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k7_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k7_mult12 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k7_mult13 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k7_mult14 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k7_mult15 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k7_mult16 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k7_mult17 (k7_t1 : Fin k7_t1_loop.trips) : BitVec 32 :=
  let c0_i32_45 : BitVec 32 := 0#32
  let c1_i32_46 : BitVec 32 := 1#32
  let arg12 : BitVec 32 := Scf.iv c0_i32_45 c1_i32_46 k7_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  let c0_i32_1 : BitVec 32 := 0#32
  ![c0_i32.toNat, v0.toNat, c0_i32_0.toNat]

def cc7_transform_4 (i : grid7.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc7_transform_5 (i : grid7.Coords) : Fin 3 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  let c0_i32_1 : BitVec 32 := 0#32
  ![v0.toNat, c0_i32.toNat, c0_i32_0.toNat]

def cc7_transform_6 (i : grid7.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc7_transform_7 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_8 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 1 → Memref sig .tc .vmem S3584x1536 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S1536x256 .fp8e5m2 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1536x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2x256x448 .i8 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S2x4x2x8x128 .i32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x1x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2x56x8x8x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2x56x8x128 .i32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x1x256 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![6], ![false]⟩

def k8_mult1 (i : grid8.Coords) : BitVec 32 :=
  let c68_i32 : BitVec 32 := 68#32
  let arg0 : BitVec 32 := BitVec.ofNat 32 (i 0).val
  let v0 : BitVec 32 := Scalar.addi c68_i32 arg0
  let c2_i32 : BitVec 32 := 2#32
  let v1 : BitVec 32 := Scalar.muli v0 c2_i32
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k8_off1 (i : grid8.Coords) (c0_i32 : BitVec 32) : Fin 2 → Nat :=
  let c0 : Index := 0#32
  let c68_i32 : BitVec 32 := 68#32
  let arg0 : BitVec 32 := BitVec.ofNat 32 (i 0).val
  let v0 : BitVec 32 := Scalar.addi c68_i32 arg0
  let c2_i32 : BitVec 32 := 2#32
  let v1 : BitVec 32 := Scalar.muli v0 c2_i32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v33 : Index := Scalar.indexCast v21
  ![0, v33.toNat]
def k8_mult2 (i : grid8.Coords) : BitVec 32 :=
  let c68_i32_16 : BitVec 32 := 68#32
  let arg0 : BitVec 32 := BitVec.ofNat 32 (i 0).val
  let v47 : BitVec 32 := Scalar.addi c68_i32_16 arg0
  let c2_i32_17 : BitVec 32 := 2#32
  let v48 : BitVec 32 := Scalar.muli v47 c2_i32_17
  let c1_i32_18 : BitVec 32 := 1#32
  let v49 : BitVec 32 := Scalar.addi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c128_i32_26 : BitVec 32 := 128#32
  let v67 : BitVec 32 := Scalar.muli v66 c128_i32_26
  v67
@[reducible] def k8_t1_loop : Scf.Loop 32 :=
  let c0_i32_45 : BitVec 32 := 0#32
  let c8_i32 : BitVec 32 := 8#32
  let v114 : BitVec 32 := Scalar.addi c0_i32_45 c8_i32
  let c1_i32_46 : BitVec 32 := 1#32
  ⟨c0_i32_45, v114, c1_i32_46⟩
def k8_mult3 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c448_i32 : BitVec 32 := 448#32
  let v126 : BitVec 32 := Scalar.muli arg12 c448_i32
  v126
def k8_off2 (k8_t1 : Fin k8_t1_loop.trips) : Fin 2 → Nat :=
  let c0_i32_45 : BitVec 32 := 0#32
  let c1_i32_46 : BitVec 32 := 1#32
  let arg12 : BitVec 32 := Scf.iv c0_i32_45 c1_i32_46 k8_t1
  let c448_i32 : BitVec 32 := 448#32
  let v126 : BitVec 32 := Scalar.muli arg12 c448_i32
  let v127 : BitVec 32 := v126
  let v128 : Index := Scalar.indexCast v127
  let c0_56 : Index := 0#32
  ![v128.toNat, 0]
def k8_mult4 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let c0_i32_63 : BitVec 32 := 0#32
  let v136 : BitVec 32 := Scalar.addi v135 c0_i32_63
  let c8_i32_64 : BitVec 32 := 8#32
  let v137 : BitVec 32 := Scalar.muli v136 c8_i32_64
  v137
def k8_off3 (k8_t1 : Fin k8_t1_loop.trips) (c0_i32_63 : BitVec 32) : Fin 2 → Nat :=
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let c8_i32_64 : BitVec 32 := 8#32
  let v137 : BitVec 32 := Scalar.muli v136 c8_i32_64
  let v138 : BitVec 32 := v137
  let v139 : Index := Scalar.indexCast v138
  let c0_65 : Index := 0#32
  ![v139.toNat, 0]
def k8_off4 (k8_t1 : Fin k8_t1_loop.trips) (c0_i32_63 : BitVec 32) : Fin 4 → Nat :=
  let c0_66 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v144 : Index := Scalar.indexCast v136
  let c0_67 : Index := 0#32
  let c0_68 : Index := 0#32
  ![0, v144.toNat, 0, 0]
def k8_off5 (k8_t1 : Fin k8_t1_loop.trips) (c0_i32_63 : BitVec 32) : Fin 5 → Nat :=
  let c0_168 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v311 : Index := Scalar.indexCast v136
  let c0_169 : Index := 0#32
  let c0_170 : Index := 0#32
  let c0_171 : Index := 0#32
  ![0, v311.toNat, 0, 0, 0]
def k8_off6 (k8_t1 : Fin k8_t1_loop.trips) (c0_i32_63 : BitVec 32) : Fin 5 → Nat :=
  let c0_172 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v320 : Index := Scalar.indexCast v136
  let c1_173 : Index := 1#32
  let c0_174 : Index := 0#32
  let c0_175 : Index := 0#32
  ![0, v320.toNat, 1, 0, 0]
def k8_off7 (k8_t1 : Fin k8_t1_loop.trips) (c0_i32_63 : BitVec 32) : Fin 5 → Nat :=
  let c0_176 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v329 : Index := Scalar.indexCast v136
  let c2_177 : Index := 2#32
  let c0_178 : Index := 0#32
  let c0_179 : Index := 0#32
  ![0, v329.toNat, 2, 0, 0]
def k8_off8 (k8_t1 : Fin k8_t1_loop.trips) (c0_i32_63 : BitVec 32) : Fin 5 → Nat :=
  let c0_180 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v338 : Index := Scalar.indexCast v136
  let c3_181 : Index := 3#32
  let c0_182 : Index := 0#32
  let c0_183 : Index := 0#32
  ![0, v338.toNat, 3, 0, 0]
def k8_off9 (k8_t1 : Fin k8_t1_loop.trips) (c0_i32_63 : BitVec 32) : Fin 5 → Nat :=
  let c0_184 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v347 : Index := Scalar.indexCast v136
  let c4 : Index := 4#32
  let c0_185 : Index := 0#32
  let c0_186 : Index := 0#32
  ![0, v347.toNat, 4, 0, 0]
def k8_off10 (k8_t1 : Fin k8_t1_loop.trips) (c0_i32_63 : BitVec 32) : Fin 5 → Nat :=
  let c0_187 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v356 : Index := Scalar.indexCast v136
  let c5 : Index := 5#32
  let c0_188 : Index := 0#32
  let c0_189 : Index := 0#32
  ![0, v356.toNat, 5, 0, 0]
def k8_off11 (k8_t1 : Fin k8_t1_loop.trips) (c0_i32_63 : BitVec 32) : Fin 5 → Nat :=
  let c0_190 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v365 : Index := Scalar.indexCast v136
  let c6 : Index := 6#32
  let c0_191 : Index := 0#32
  let c0_192 : Index := 0#32
  ![0, v365.toNat, 6, 0, 0]
def k8_off12 (k8_t1 : Fin k8_t1_loop.trips) (c0_i32_63 : BitVec 32) : Fin 5 → Nat :=
  let c0_193 : Index := 0#32
  let c0_i32_45 : BitVec 32 := 0#32
  let c1_i32_46 : BitVec 32 := 1#32
  let arg12 : BitVec 32 := Scf.iv c0_i32_45 c1_i32_46 k8_t1
  let c7_i32 : BitVec 32 := 7#32
  let v135 : BitVec 32 := Scalar.muli arg12 c7_i32
  let v136 : BitVec 32 := Scalar.addi v135 c0_i32_63
  let v374 : Index := Scalar.indexCast v136
  let c7 : Index := 7#32
  let c0_194 : Index := 0#32
  let c0_195 : Index := 0#32
  ![0, v374.toNat, 7, 0, 0]
def k8_mult5 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_196 : BitVec 32 := 7#32
  let v380 : BitVec 32 := Scalar.muli arg12 c7_i32_196
  let c1_i32_197 : BitVec 32 := 1#32
  let v381 : BitVec 32 := Scalar.addi v380 c1_i32_197
  let c8_i32_198 : BitVec 32 := 8#32
  let v382 : BitVec 32 := Scalar.muli v381 c8_i32_198
  v382
def k8_mult6 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_340 : BitVec 32 := 7#32
  let v625 : BitVec 32 := Scalar.muli arg12 c7_i32_340
  let c2_i32_341 : BitVec 32 := 2#32
  let v626 : BitVec 32 := Scalar.addi v625 c2_i32_341
  let c8_i32_342 : BitVec 32 := 8#32
  let v627 : BitVec 32 := Scalar.muli v626 c8_i32_342
  v627
def k8_mult7 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_484 : BitVec 32 := 7#32
  let v870 : BitVec 32 := Scalar.muli arg12 c7_i32_484
  let c3_i32 : BitVec 32 := 3#32
  let v871 : BitVec 32 := Scalar.addi v870 c3_i32
  let c8_i32_485 : BitVec 32 := 8#32
  let v872 : BitVec 32 := Scalar.muli v871 c8_i32_485
  v872
def k8_mult8 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_627 : BitVec 32 := 7#32
  let v1115 : BitVec 32 := Scalar.muli arg12 c7_i32_627
  let c4_i32_628 : BitVec 32 := 4#32
  let v1116 : BitVec 32 := Scalar.addi v1115 c4_i32_628
  let c8_i32_629 : BitVec 32 := 8#32
  let v1117 : BitVec 32 := Scalar.muli v1116 c8_i32_629
  v1117
def k8_mult9 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_771 : BitVec 32 := 7#32
  let v1360 : BitVec 32 := Scalar.muli arg12 c7_i32_771
  let c5_i32 : BitVec 32 := 5#32
  let v1361 : BitVec 32 := Scalar.addi v1360 c5_i32
  let c8_i32_772 : BitVec 32 := 8#32
  let v1362 : BitVec 32 := Scalar.muli v1361 c8_i32_772
  v1362
def k8_mult10 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_914 : BitVec 32 := 7#32
  let v1605 : BitVec 32 := Scalar.muli arg12 c7_i32_914
  let c6_i32 : BitVec 32 := 6#32
  let v1606 : BitVec 32 := Scalar.addi v1605 c6_i32
  let c8_i32_915 : BitVec 32 := 8#32
  let v1607 : BitVec 32 := Scalar.muli v1606 c8_i32_915
  v1607
def k8_mult11 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let c0_i32_1061 : BitVec 32 := 0#32
  let v1853 : BitVec 32 := Scalar.addi v1852 c0_i32_1061
  let c8_i32_1062 : BitVec 32 := 8#32
  let v1854 : BitVec 32 := Scalar.muli v1853 c8_i32_1062
  v1854
def k8_off13 (k8_t1 : Fin k8_t1_loop.trips) (c0_i32_1061 : BitVec 32) : Fin 2 → Nat :=
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let c8_i32_1062 : BitVec 32 := 8#32
  let v1854 : BitVec 32 := Scalar.muli v1853 c8_i32_1062
  let v1855 : BitVec 32 := v1854
  let v1856 : Index := Scalar.indexCast v1855
  let c128_1063 : Index := 128#32
  ![v1856.toNat, 128]
def k8_off14 (k8_t1 : Fin k8_t1_loop.trips) (c0_i32_1061 : BitVec 32) : Fin 4 → Nat :=
  let c1_1065 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v1861 : Index := Scalar.indexCast v1853
  let c0_1066 : Index := 0#32
  let c0_1067 : Index := 0#32
  ![1, v1861.toNat, 0, 0]
def k8_off15 (k8_t1 : Fin k8_t1_loop.trips) (c0_i32_1061 : BitVec 32) : Fin 5 → Nat :=
  let c1_1172 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2028 : Index := Scalar.indexCast v1853
  let c0_1173 : Index := 0#32
  let c0_1174 : Index := 0#32
  let c0_1175 : Index := 0#32
  ![1, v2028.toNat, 0, 0, 0]
def k8_off16 (k8_t1 : Fin k8_t1_loop.trips) (c0_i32_1061 : BitVec 32) : Fin 5 → Nat :=
  let c1_1176 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2037 : Index := Scalar.indexCast v1853
  let c1_1177 : Index := 1#32
  let c0_1178 : Index := 0#32
  let c0_1179 : Index := 0#32
  ![1, v2037.toNat, 1, 0, 0]
def k8_off17 (k8_t1 : Fin k8_t1_loop.trips) (c0_i32_1061 : BitVec 32) : Fin 5 → Nat :=
  let c1_1180 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2046 : Index := Scalar.indexCast v1853
  let c2_1181 : Index := 2#32
  let c0_1182 : Index := 0#32
  let c0_1183 : Index := 0#32
  ![1, v2046.toNat, 2, 0, 0]
def k8_off18 (k8_t1 : Fin k8_t1_loop.trips) (c0_i32_1061 : BitVec 32) : Fin 5 → Nat :=
  let c1_1184 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2055 : Index := Scalar.indexCast v1853
  let c3_1185 : Index := 3#32
  let c0_1186 : Index := 0#32
  let c0_1187 : Index := 0#32
  ![1, v2055.toNat, 3, 0, 0]
def k8_off19 (k8_t1 : Fin k8_t1_loop.trips) (c0_i32_1061 : BitVec 32) : Fin 5 → Nat :=
  let c1_1188 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2064 : Index := Scalar.indexCast v1853
  let c4_1189 : Index := 4#32
  let c0_1190 : Index := 0#32
  let c0_1191 : Index := 0#32
  ![1, v2064.toNat, 4, 0, 0]
def k8_off20 (k8_t1 : Fin k8_t1_loop.trips) (c0_i32_1061 : BitVec 32) : Fin 5 → Nat :=
  let c1_1192 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2073 : Index := Scalar.indexCast v1853
  let c5_1193 : Index := 5#32
  let c0_1194 : Index := 0#32
  let c0_1195 : Index := 0#32
  ![1, v2073.toNat, 5, 0, 0]
def k8_off21 (k8_t1 : Fin k8_t1_loop.trips) (c0_i32_1061 : BitVec 32) : Fin 5 → Nat :=
  let c1_1196 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2082 : Index := Scalar.indexCast v1853
  let c6_1197 : Index := 6#32
  let c0_1198 : Index := 0#32
  let c0_1199 : Index := 0#32
  ![1, v2082.toNat, 6, 0, 0]
def k8_off22 (k8_t1 : Fin k8_t1_loop.trips) (c0_i32_1061 : BitVec 32) : Fin 5 → Nat :=
  let c1_1200 : Index := 1#32
  let c0_i32_45 : BitVec 32 := 0#32
  let c1_i32_46 : BitVec 32 := 1#32
  let arg12 : BitVec 32 := Scf.iv c0_i32_45 c1_i32_46 k8_t1
  let c7_i32_1060 : BitVec 32 := 7#32
  let v1852 : BitVec 32 := Scalar.muli arg12 c7_i32_1060
  let v1853 : BitVec 32 := Scalar.addi v1852 c0_i32_1061
  let v2091 : Index := Scalar.indexCast v1853
  let c7_1201 : Index := 7#32
  let c0_1202 : Index := 0#32
  let c0_1203 : Index := 0#32
  ![1, v2091.toNat, 7, 0, 0]
def k8_mult12 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1204 : BitVec 32 := 7#32
  let v2097 : BitVec 32 := Scalar.muli arg12 c7_i32_1204
  let c1_i32_1205 : BitVec 32 := 1#32
  let v2098 : BitVec 32 := Scalar.addi v2097 c1_i32_1205
  let c8_i32_1206 : BitVec 32 := 8#32
  let v2099 : BitVec 32 := Scalar.muli v2098 c8_i32_1206
  v2099
def k8_mult13 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1348 : BitVec 32 := 7#32
  let v2342 : BitVec 32 := Scalar.muli arg12 c7_i32_1348
  let c2_i32_1349 : BitVec 32 := 2#32
  let v2343 : BitVec 32 := Scalar.addi v2342 c2_i32_1349
  let c8_i32_1350 : BitVec 32 := 8#32
  let v2344 : BitVec 32 := Scalar.muli v2343 c8_i32_1350
  v2344
def k8_mult14 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1492 : BitVec 32 := 7#32
  let v2587 : BitVec 32 := Scalar.muli arg12 c7_i32_1492
  let c3_i32_1493 : BitVec 32 := 3#32
  let v2588 : BitVec 32 := Scalar.addi v2587 c3_i32_1493
  let c8_i32_1494 : BitVec 32 := 8#32
  let v2589 : BitVec 32 := Scalar.muli v2588 c8_i32_1494
  v2589
def k8_mult15 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1636 : BitVec 32 := 7#32
  let v2832 : BitVec 32 := Scalar.muli arg12 c7_i32_1636
  let c4_i32_1637 : BitVec 32 := 4#32
  let v2833 : BitVec 32 := Scalar.addi v2832 c4_i32_1637
  let c8_i32_1638 : BitVec 32 := 8#32
  let v2834 : BitVec 32 := Scalar.muli v2833 c8_i32_1638
  v2834
def k8_mult16 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1780 : BitVec 32 := 7#32
  let v3077 : BitVec 32 := Scalar.muli arg12 c7_i32_1780
  let c5_i32_1781 : BitVec 32 := 5#32
  let v3078 : BitVec 32 := Scalar.addi v3077 c5_i32_1781
  let c8_i32_1782 : BitVec 32 := 8#32
  let v3079 : BitVec 32 := Scalar.muli v3078 c8_i32_1782
  v3079
def k8_mult17 (k8_t1 : Fin k8_t1_loop.trips) : BitVec 32 :=
  let c0_i32_45 : BitVec 32 := 0#32
  let c1_i32_46 : BitVec 32 := 1#32
  let arg12 : BitVec 32 := Scf.iv c0_i32_45 c1_i32_46 k8_t1
  let c7_i32_1924 : BitVec 32 := 7#32
  let v3322 : BitVec 32 := Scalar.muli arg12 c7_i32_1924
  let c6_i32_1925 : BitVec 32 := 6#32
  let v3323 : BitVec 32 := Scalar.addi v3322 c6_i32_1925
  let c8_i32_1926 : BitVec 32 := 8#32
  let v3324 : BitVec 32 := Scalar.muli v3323 c8_i32_1926
  v3324
def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  ![c0_i32.toNat, v0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 3 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  let c0_i32_1 : BitVec 32 := 0#32
  ![c0_i32.toNat, v0.toNat, c0_i32_0.toNat]

def cc8_transform_4 (i : grid8.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc8_transform_5 (i : grid8.Coords) : Fin 3 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  let c0_i32_1 : BitVec 32 := 0#32
  ![v0.toNat, c0_i32.toNat, c0_i32_0.toNat]

def cc8_transform_6 (i : grid8.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc8_transform_7 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 1 → Memref sig .tc .vmem S3584x1536 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S1536x256 .fp8e5m2 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1536x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2x256x448 .i8 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S2x4x2x8x128 .i32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1x1x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S2x56x8x8x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S2x56x8x128 .i32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S1x1x256 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]
-- ==== ReferenceIdeal.lean ====
abbrev S12x128x3584 : Shape := ⟨3, ![12, 128, 3584]⟩
abbrev S12x128x18944 : Shape := ⟨3, ![12, 128, 18944]⟩
abbrev S12x128x148 : Shape := ⟨3, ![12, 128, 148]⟩
abbrev S2x18944x448 : Shape := ⟨3, ![2, 18944, 448]⟩
abbrev S2x256x4 : Shape := ⟨3, ![2, 256, 4]⟩
abbrev S18944 : Shape := ⟨1, ![18944]⟩
abbrev S12x128x148x128 : Shape := ⟨4, ![12, 128, 148, 128]⟩
abbrev S12x128x148x1 : Shape := ⟨4, ![12, 128, 148, 1]⟩
abbrev S18944x3584 : Shape := ⟨2, ![18944, 3584]⟩
abbrev S18944x448x8 : Shape := ⟨3, ![18944, 448, 8]⟩
abbrev S_ : Shape := ⟨0, ![]⟩
abbrev S2x256x4x1 : Shape := ⟨4, ![2, 256, 4, 1]⟩
abbrev S2x256x4x2 : Shape := ⟨4, ![2, 256, 4, 2]⟩
abbrev S2x256x8 : Shape := ⟨3, ![2, 256, 8]⟩
abbrev S1x256x8 : Shape := ⟨3, ![1, 256, 8]⟩
abbrev S256x8 : Shape := ⟨2, ![256, 8]⟩
abbrev S1x18944x448 : Shape := ⟨3, ![1, 18944, 448]⟩
abbrev S18944x448 : Shape := ⟨2, ![18944, 448]⟩
abbrev S18944x448x1 : Shape := ⟨3, ![18944, 448, 1]⟩
abbrev S2560 : Shape := ⟨1, ![2560]⟩
abbrev S10x1x256 : Shape := ⟨3, ![10, 1, 256]⟩
abbrev S2048 : Shape := ⟨1, ![2048]⟩
abbrev S8x1x256 : Shape := ⟨3, ![8, 1, 256]⟩
abbrev S1536 : Shape := ⟨1, ![1536]⟩
abbrev S6x1x256 : Shape := ⟨3, ![6, 1, 256]⟩

abbrev nBuf : Space → Nat
  | .hbm => 74
  | .vmem => 2
  | .smem => 0
  | _ => 0

abbrev bufTy : (tb : Table) → Fin (tcTables nBuf tb) → BufTy
  | .hbm, ⟨0, _⟩ => ⟨S12x128x3584, .bf16⟩
  | .hbm, ⟨1, _⟩ => ⟨S12x128x18944, .fp8e5m2⟩
  | .hbm, ⟨2, _⟩ => ⟨S12x128x148, .f32⟩
  | .hbm, ⟨3, _⟩ => ⟨S2x18944x448, .i8⟩
  | .hbm, ⟨4, _⟩ => ⟨S2x256x4, .i32⟩
  | .hbm, ⟨5, _⟩ => ⟨S18944, .f32⟩
  | .hbm, ⟨6, _⟩ => ⟨S12x128x18944, .bf16⟩
  | .hbm, ⟨7, _⟩ => ⟨S12x128x148x128, .bf16⟩
  | .hbm, ⟨8, _⟩ => ⟨S12x128x148, .bf16⟩
  | .hbm, ⟨9, _⟩ => ⟨S12x128x148x1, .bf16⟩
  | .hbm, ⟨10, _⟩ => ⟨S12x128x148x128, .bf16⟩
  | .hbm, ⟨11, _⟩ => ⟨S12x128x148x128, .bf16⟩
  | .hbm, ⟨12, _⟩ => ⟨S12x128x18944, .bf16⟩
  | .hbm, ⟨13, _⟩ => ⟨S18944x3584, .f32⟩
  | .hbm, ⟨14, _⟩ => ⟨S18944x448x8, .f32⟩
  | .hbm, ⟨15, _⟩ => ⟨S_, .i32⟩
  | .hbm, ⟨16, _⟩ => ⟨S2x256x4, .i32⟩
  | .hbm, ⟨17, _⟩ => ⟨S2x256x4, .i32⟩
  | .hbm, ⟨18, _⟩ => ⟨S2x256x4, .f32⟩
  | .hbm, ⟨19, _⟩ => ⟨S_, .i32⟩
  | .hbm, ⟨20, _⟩ => ⟨S2x256x4, .i32⟩
  | .hbm, ⟨21, _⟩ => ⟨S2x256x4, .i32⟩
  | .hbm, ⟨22, _⟩ => ⟨S2x256x4, .f32⟩
  | .hbm, ⟨23, _⟩ => ⟨S2x256x4x1, .f32⟩
  | .hbm, ⟨24, _⟩ => ⟨S2x256x4x1, .f32⟩
  | .hbm, ⟨25, _⟩ => ⟨S2x256x4x2, .f32⟩
  | .hbm, ⟨26, _⟩ => ⟨S2x256x8, .f32⟩
  | .hbm, ⟨27, _⟩ => ⟨S2x18944x448, .i32⟩
  | .hbm, ⟨28, _⟩ => ⟨S1x256x8, .f32⟩
  | .hbm, ⟨29, _⟩ => ⟨S256x8, .f32⟩
  | .hbm, ⟨30, _⟩ => ⟨S1x18944x448, .i32⟩
  | .hbm, ⟨31, _⟩ => ⟨S18944x448, .i32⟩
  | .hbm, ⟨32, _⟩ => ⟨S_, .i32⟩
  | .hbm, ⟨33, _⟩ => ⟨S18944x448, .i32⟩
  | .hbm, ⟨34, _⟩ => ⟨S18944x448, .i1⟩
  | .hbm, ⟨35, _⟩ => ⟨S_, .i32⟩
  | .hbm, ⟨36, _⟩ => ⟨S18944x448, .i32⟩
  | .hbm, ⟨37, _⟩ => ⟨S18944x448, .i32⟩
  | .hbm, ⟨38, _⟩ => ⟨S18944x448, .i32⟩
  | .hbm, ⟨39, _⟩ => ⟨S18944x448x1, .i32⟩
  | .hbm, ⟨40, _⟩ => ⟨S18944x448x8, .f32⟩
  | .hbm, ⟨41, _⟩ => ⟨S1x256x8, .f32⟩
  | .hbm, ⟨42, _⟩ => ⟨S256x8, .f32⟩
  | .hbm, ⟨43, _⟩ => ⟨S1x18944x448, .i32⟩
  | .hbm, ⟨44, _⟩ => ⟨S18944x448, .i32⟩
  | .hbm, ⟨45, _⟩ => ⟨S_, .i32⟩
  | .hbm, ⟨46, _⟩ => ⟨S18944x448, .i32⟩
  | .hbm, ⟨47, _⟩ => ⟨S18944x448, .i1⟩
  | .hbm, ⟨48, _⟩ => ⟨S_, .i32⟩
  | .hbm, ⟨49, _⟩ => ⟨S18944x448, .i32⟩
  | .hbm, ⟨50, _⟩ => ⟨S18944x448, .i32⟩
  | .hbm, ⟨51, _⟩ => ⟨S18944x448, .i32⟩
  | .hbm, ⟨52, _⟩ => ⟨S18944x448x1, .i32⟩
  | .hbm, ⟨53, _⟩ => ⟨S18944x448x8, .f32⟩
  | .hbm, ⟨54, _⟩ => ⟨S18944x448x8, .f32⟩
  | .hbm, ⟨55, _⟩ => ⟨S18944x448x8, .f32⟩
  | .hbm, ⟨56, _⟩ => ⟨S_, .f32⟩
  | .hbm, ⟨57, _⟩ => ⟨S18944, .f32⟩
  | .hbm, ⟨58, _⟩ => ⟨S2560, .f32⟩
  | .hbm, ⟨59, _⟩ => ⟨S10x1x256, .f32⟩
  | .hbm, ⟨60, _⟩ => ⟨S2560, .f32⟩
  | .hbm, ⟨61, _⟩ => ⟨S10x1x256, .f32⟩
  | .hbm, ⟨62, _⟩ => ⟨S2560, .f32⟩
  | .hbm, ⟨63, _⟩ => ⟨S10x1x256, .f32⟩
  | .hbm, ⟨64, _⟩ => ⟨S2560, .f32⟩
  | .hbm, ⟨65, _⟩ => ⟨S10x1x256, .f32⟩
  | .hbm, ⟨66, _⟩ => ⟨S2560, .f32⟩
  | .hbm, ⟨67, _⟩ => ⟨S10x1x256, .f32⟩
  | .hbm, ⟨68, _⟩ => ⟨S2560, .f32⟩
  | .hbm, ⟨69, _⟩ => ⟨S10x1x256, .f32⟩
  | .hbm, ⟨70, _⟩ => ⟨S2048, .f32⟩
  | .hbm, ⟨71, _⟩ => ⟨S8x1x256, .f32⟩
  | .hbm, ⟨72, _⟩ => ⟨S1536, .f32⟩
  | .hbm, ⟨73, _⟩ => ⟨S6x1x256, .f32⟩
  | .local _ .vmem, ⟨0, _⟩ => ⟨S12x128x18944, .fp8e5m2⟩
  | .local _ .vmem, ⟨1, _⟩ => ⟨S12x128x18944, .bf16⟩
  | _, _ => ⟨S12x128x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x128x18944 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.TcLoop.lean ====
/- The counted loop of the `KernelIdeal` program's matrix-product calls (one text for all of them: `TcRun`), taken by its invariant: what one trip yields and
   stores (`trip_k1_t1`, found by the run at a symbolic trip), the recursion over the trips, and the loop's instance.
   The text follows the generated loop module; it needs a deeper recursion limit than that one sets. -/
module

public import proofs.«01_k».proof.Proof.Gen.KernelIdeal.Skeleton
public import Idealize.ShloMosaic.Lib.Exec
public import Idealize.ShloMosaic.Lib.Pipeline.Kit
public import Idealize.ShloMosaic.Lib.Tactic

@[expose] public section

set_option maxRecDepth 100000
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### `k1_t1_loop`: the generated invariant (classifier: affine) -/

/-- One trip's resources: what the region reads (arg1, arg5, arg6, arg10, arg11) at its contents,
   what it writes (arg7, arg8) at any. -/
abbrev Trip_k1_t1 (c : Dev nD) (arg1 : Memref sig .tc .vmem S3584x1536 .bf16) (arg5 : Memref sig .tc .vmem S2x4x2x8x128 .i32) (arg6 : Memref sig .tc .vmem S1x1x256 .f32) (arg10 : Memref sig .tc .vmem S1536x256 .bf16) (arg11 : Memref sig .tc .vmem S448x256 .i32) (arg7 : Memref sig .tc .vmem S2x56x8x8x128 .f32) (arg8 : Memref sig .tc .vmem S2x56x8x128 .i32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (f_arg7 : BufTy.Contents (Elt F) arg7.view.ty) (f_arg8 : BufTy.Contents (Elt F) arg8.view.ty) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} X_arg10) ∗ (arg11.view.loc (c : Thread nD τ) ↦[arg11.view.set]{fullShare} X_arg11) ∗ (arg7.view.loc (c : Thread nD τ) ↦[arg7.view.set]{fullShare} f_arg7) ∗ (arg8.view.loc (c : Thread nD τ) ↦[arg8.view.set]{fullShare} f_arg8))

/-- ONE TRIP of `k1_t1_loop` at a symbolic `k` and carried value `acc`, run by `sl_exec` (its
   rectangles' offsets closed forms of `k`, their geometry linear arithmetic): what it yields and
   the pieces it writes into arg7, arg8 are the run's own finds — the witnesses `sl_close` assigns
   handing the buffers to the continuation, as functions of the carried value. `@[irreducible]`:
   cited, never unfolded. -/
@[irreducible] def trip_k1_t1 (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) :
    Σ' (R_k1_t1 : ((FVec F S8x128 .f32 × FVec F S8x128 .f32) → FVec F S8x128 .f32 × FVec F S8x128 .f32)) (L_arg7 : ((FVec F S8x128 .f32 × FVec F S8x128 .f32) → List (View.Piece (Elt F) S2x56x8x8x128 .f32))) , { L_arg8 : ((FVec F S8x128 .f32 × FVec F S8x128 .f32) → List (View.Piece (Elt F) S2x56x8x128 .i32)) // ∀ (E : Set ℕ) (acc : FVec F S8x128 .f32 × FVec F S8x128 .f32) (f_arg7 : BufTy.Contents (Elt F) arg7.view.ty) (f_arg8 : BufTy.Contents (Elt F) arg8.view.ty),
      Trip_k1_t1 (F := F) c arg1 arg5 arg6 arg10 arg11 arg7 arg8 X_arg1 X_arg5 X_arg6 X_arg10 X_arg11 f_arg7 f_arg8
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 v68 v78 k acc)
          (fun yld => iprop(⌜yld = R_k1_t1 acc⌝ ∗ Trip_k1_t1 (F := F) c arg1 arg5 arg6 arg10 arg11 arg7 arg8 X_arg1 X_arg5 X_arg6 X_arg10 X_arg11 (arg7.view.writes (Elt F) f_arg7 (L_arg7 acc)) (arg8.view.writes (Elt F) f_arg8 (L_arg8 acc)))) } := by
  have hk : k.val < 8 := Nat.lt_of_lt_of_le k.isLt k1_t1_abs.2.1
  refine ⟨?_, ?_, ?_, fun E acc f_arg7 f_arg8 => ?run⟩
  case run =>
    unfold k1_t1_body
    iintro ⟨HR_arg1, HR_arg5, HR_arg6, HR_arg10, HR_arg11, HW_arg7, HW_arg8⟩
    sl_exec
    sl_step
    sl_close

/-- The trip's result (a plain projection of `trip_…`, for the recursion below to cite without its
   proof). -/
abbrev tripR_k1_t1 (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) (acc : FVec F S8x128 .f32 × FVec F S8x128 .f32) : FVec F S8x128 .f32 × FVec F S8x128 .f32 :=
  (trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).1 acc

/-- The trip's piece lists (plain projections of `trip_…`, for the recursion below to cite without
   its proof), at the carried value. -/
abbrev tripL_k1_t1 (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) (acc : FVec F S8x128 .f32 × FVec F S8x128 .f32) : List (View.Piece (Elt F) S2x56x8x8x128 .f32) × List (View.Piece (Elt F) S2x56x8x128 .i32) :=
  ((trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.1 acc, (trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.2.1 acc)

/-- Trip `k`'s contribution to the state the recursion `st_k1_t1` below carries (`prev`): its result
   as the new carried value and its pieces in front, per written memref; past the last trip, `prev`
   itself. -/
@[irreducible] def st_k1_t1Step (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (init : FVec F S8x128 .f32 × FVec F S8x128 .f32) (k : ℕ) (prev : (FVec F S8x128 .f32 × FVec F S8x128 .f32) × List (View.Piece (Elt F) S2x56x8x8x128 .f32) × List (View.Piece (Elt F) S2x56x8x128 .i32)) : (FVec F S8x128 .f32 × FVec F S8x128 .f32) × List (View.Piece (Elt F) S2x56x8x8x128 .f32) × List (View.Piece (Elt F) S2x56x8x128 .i32) :=
  if h : k < k1_t1_loop.trips then
    (tripR_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨k, h⟩ prev.1, (tripL_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨k, h⟩ prev.1).1 ++ prev.2.1, (tripL_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨k, h⟩ prev.1).2 ++ prev.2.2)
  else prev

/-- The STATE before trip `k`: the carried value and, per written memref, the pieces of the trips
   before (last first), from the loop's initial value `init`. -/
def st_k1_t1 (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (init : FVec F S8x128 .f32 × FVec F S8x128 .f32) : ℕ → (FVec F S8x128 .f32 × FVec F S8x128 .f32) × List (View.Piece (Elt F) S2x56x8x8x128 .f32) × List (View.Piece (Elt F) S2x56x8x128 .i32)
  | 0 => (init, [], [])
  | k + 1 => st_k1_t1Step 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k (st_k1_t1 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k)

theorem st_k1_t1_succ (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (init : FVec F S8x128 .f32 × FVec F S8x128 .f32) (k : Fin k1_t1_loop.trips) :
    st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init (k.val + 1)
      = ((tripR_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k.val).1), (tripL_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k.val).1).1 ++ (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k.val).2.1, (tripL_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k.val).1).2 ++ (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k.val).2.2) := by
  rw [st_k1_t1.eq_2]; unfold st_k1_t1Step; exact dif_pos k.isLt

/-- The carried value before trip 0 is the initial one: the invariant's equation at loop entry,
   which the run closes by this (`sl_pure`) without unfolding the value it holds. -/
theorem st_k1_t1_zero (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (init : FVec F S8x128 .f32 × FVec F S8x128 .f32) :
    (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init 0).1 = init := rfl

/-- THE INVARIANT before trip `k`: arg1, arg5, arg6, arg10, arg11 read at `X_·`; arg7, arg8 holding
   the pieces of the trips before `k` written over the contents at loop entry `G_·` (stated `∃ f, …
   ∗ ⌜f = …⌝`, so that a hypothesis of any contents matches and the equation is what is proved); and
   `acc` equal to the state's carried value (an equation the run substitutes after the loop). -/
abbrev inv_k1_t1 (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) (init : FVec F S8x128 .f32 × FVec F S8x128 .f32) (k : ℕ) (acc : FVec F S8x128 .f32 × FVec F S8x128 .f32) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} X_arg10) ∗ (arg11.view.loc (c : Thread nD τ) ↦[arg11.view.set]{fullShare} X_arg11) ∗ (∃ f, (arg7.view.loc (c : Thread nD τ) ↦[arg7.view.set]{fullShare} f) ∗ ⌜f = arg7.view.writes (Elt F) G_arg7 (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k).2.1⌝) ∗ (∃ f, (arg8.view.loc (c : Thread nD τ) ↦[arg8.view.set]{fullShare} f) ∗ ⌜f = arg8.view.writes (Elt F) G_arg8 (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k).2.2⌝) ∗ ⌜acc = (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k).1⌝)

/-- The class of the loop's invariants (`LoopInv` of the library at the run's frame and clauses). -/
abbrev TcLoopTy (Ix Name U Lvl : Type) [DecidableEq Ix] [DecidableEq Name] [RA.URA U] [Preorder Lvl]
    (𝒱 : Variants) (c : Dev nD) (bd : Option 𝒱.V) (E : Set Name) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (init : FVec F S8x128 .f32 × FVec F S8x128 .f32) :=
  Idealize.ShloMosaic.LoopInv (M := MT nD τ sig Ix (Elt F) Name U Lvl) Idealize.ShloMosaic.frame (wpE defs₀ 𝒱 (c : Thread nD τ) bd) E
    k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 arg10 harg10 arg11 harg11 v68 v78)

set_option warn.classDefReducibility false in
/-- THE LOOP BY ITS INVARIANT — generated (`@[sl_loop]`: `sl_exec` finds it meeting `k1_t1_loop`,
   fixing `X_· G_·` and `init` against the context; after the loop each written memref holds `writes
   G (st … trips).2` and what it yields is `(st … trips).1`). -/
@[sl_loop] def loopInv_k1_t1 (𝒱 : Variants) (c : Dev nD) (bd : Option 𝒱.V) (E : Set ℕ) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) (init : FVec F S8x128 .f32 × FVec F S8x128 .f32) :
    TcLoopTy (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v68 v78 init where
  inv := inv_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 G_arg7 G_arg8 init
  step k acc := by
    iintro ⟨HR_arg1, HR_arg5, HR_arg6, HR_arg10, HR_arg11, ⟨%f_arg7, HW_arg7, %h_arg7⟩, ⟨%f_arg8, HW_arg8, %h_arg8⟩, %h_acc⟩
    subst h_acc
    iapply (wp_wand_r Idealize.ShloMosaic.frame (wpE (defs₀ (F := F)) 𝒱 (c : Thread nD τ) bd) E)
    isplitl [HR_arg1 HR_arg5 HR_arg6 HR_arg10 HR_arg11 HW_arg7 HW_arg8]
    · iapply ((trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.2.2 E (st_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init k).1 f_arg7 f_arg8)
      isplitl [HR_arg1]; · iexact HR_arg1
      isplitl [HR_arg5]; · iexact HR_arg5
      isplitl [HR_arg6]; · iexact HR_arg6
      isplitl [HR_arg10]; · iexact HR_arg10
      isplitl [HR_arg11]; · iexact HR_arg11
      isplitl [HW_arg7]; · iexact HW_arg7
      iexact HW_arg8
    · iintro %yld ⟨%h_res, HR_arg1, HR_arg5, HR_arg6, HR_arg10, HR_arg11, HW_arg7, HW_arg8⟩
      isplitl [HR_arg1]; · iexact HR_arg1
      isplitl [HR_arg5]; · iexact HR_arg5
      isplitl [HR_arg6]; · iexact HR_arg6
      isplitl [HR_arg10]; · iexact HR_arg10
      isplitl [HR_arg11]; · iexact HR_arg11
      simp only [st_k1_t1_succ]
      isplitl [HW_arg7]
      · iexists _; isplitl [HW_arg7]; · iexact HW_arg7
        ipureintro; rw [h_arg7]; exact (View.writes_append ..).symm
      isplitl [HW_arg8]
      · iexists _; isplitl [HW_arg8]; · iexact HW_arg8
        ipureintro; rw [h_arg8]; exact (View.writes_append ..).symm
      ipureintro; rw [h_res]

end Cert.KernelIdeal.Gen

end
-- ==== Proof.TripValue.lean ====
/- What one trip of the matrix-product call's loop yields and stores, in one formula for all of its 2 halves, 7 groups
   of 64 rows and 8 positions in a group: the trip's found pieces and its carried sums are these formulas, by evaluation. -/
module

public import proofs.«01_k».proof.Proof.TcLoop
public import Idealize.ShloMosaic.Lib.Tactic
public import Idealize.ShloMosaic.Lib.Pipeline.FrameBody

@[expose] public section

set_option maxRecDepth 100000
set_option maxHeartbeats 4000000

noncomputable section

namespace Cert.KernelIdeal.Gen

open Idealize.ShloMosaic Idealize.ShloMosaic.TcCoe Idealize.ShloMosaic.Tactic
open Idealize.SL

variable {F : FTy → Type} [FloatOps F]

/-! ### The formulas -/

theorem slices_piece : ∀ (h : Fin 2) (b : Fin 7) (j : Fin 8),
    S448x256.Slices ![64 * b.val + 8 * j.val, 128 * h.val] S8x128 := by decide +kernel

/-- The 8×128 part of the product that belongs to half `h`, group `b`, position `j`. -/
def part (M : FVec F S448x256 .f32) (h : Fin 2) (b : Fin 7) (j : Fin 8) : FVec F S8x128 .f32 :=
  extractStridedSlice S8x128 ![64 * b.val + 8 * j.val, 128 * h.val] M (slices_piece h b j)

/-- That part times the row scales: what is stored. -/
def weightedPart (M : FVec F S448x256 .f32) (s : FVec F S1x128 .f32) (h : Fin 2) (b : Fin 7) (j : Fin 8) :
    FVec F S1x1x1x8x128 .f32 :=
  shapeCast S1x1x1x8x128 (mulf (part M h b j) (broadcastTo S8x128 s broadcasts_S1x128_S8x128)) shapeCasts_S8x128_S1x1x1x8x128

/-- The codes of codebook `m` in the words `w`. -/
def codeOf (m : Fin 2) (w : IVec S8x128 32) : IVec S8x128 32 :=
  andi (shrsi w (broadcast S8x128 (match m with | 0 => 0#32 | 1 => 16#32))) (broadcast S8x128 255#32)

/-- The lane a code is looked up in, in the layout the gathers take. -/
def laneWord (m : Fin 2) (w : IVec S8x128 32) : IVec S8x128 32 :=
  shapeCast S8x128 (shapeCast S8x128x1 (andi (codeOf m w) (broadcast S8x128 127#32)) shapeCasts_S8x128_S8x128x1)
    shapeCasts_S8x128x1_S8x128

/-- The table word of codebook `m` and pair `p`: the upper table for codes from 128 on, else the lower one. -/
def wordOf (w : IVec S8x128 32) (tab : Fin 2 → Fin 4 → Fin 2 → Vec F S1x1x1x8x128 .i32) (m : Fin 2) (p : Fin 4) : IVec S8x128 32 :=
  select (cmpi .sge (codeOf m w) (broadcast S8x128 128#32))
    (dynamicGather 1 (shapeCast S8x128 (tab m p 1) shapeCasts_S1x1x1x8x128_S8x128) (laneWord m w))
    (dynamicGather 1 (shapeCast S8x128 (tab m p 0) shapeCasts_S1x1x1x8x128_S8x128) (laneWord m w))

/-- The entry's component `j` of codebook `m`: the lower half of the pair's word for an even `j`, else the upper half. -/
def compOf (w : IVec S8x128 32) (tab : Fin 2 → Fin 4 → Fin 2 → Vec F S1x1x1x8x128 .i32) (m : Fin 2) (j : Fin 8) : FVec F S8x128 .f32 :=
  match j with
  | 0 => bitcastToFloat .f32 (shli (wordOf w tab m 0) (broadcast S8x128 16#32))
  | 1 => bitcastToFloat .f32 (andi (wordOf w tab m 0) (broadcast S8x128 4294901760#32))
  | 2 => bitcastToFloat .f32 (shli (wordOf w tab m 1) (broadcast S8x128 16#32))
  | 3 => bitcastToFloat .f32 (andi (wordOf w tab m 1) (broadcast S8x128 4294901760#32))
  | 4 => bitcastToFloat .f32 (shli (wordOf w tab m 2) (broadcast S8x128 16#32))
  | 5 => bitcastToFloat .f32 (andi (wordOf w tab m 2) (broadcast S8x128 4294901760#32))
  | 6 => bitcastToFloat .f32 (shli (wordOf w tab m 3) (broadcast S8x128 16#32))
  | 7 => bitcastToFloat .f32 (andi (wordOf w tab m 3) (broadcast S8x128 4294901760#32))

/-- The decoded weight: both codebooks' components added. -/
def decOf (w : IVec S8x128 32) (tab : Fin 2 → Fin 4 → Fin 2 → Vec F S1x1x1x8x128 .i32) (j : Fin 8) : FVec F S8x128 .f32 :=
  addf (compOf w tab 0 j) (compOf w tab 1 j)

/-- The places of a half in the order of the body: 7 groups of 8 positions. -/
def places : List (Fin 7 × Fin 8) :=
  [0, 1, 2, 3, 4, 5, 6].flatMap fun b => [0, 1, 2, 3, 4, 5, 6, 7].map fun j => (b, j)

/-- The sum a half carries on, after the trip. -/
def carry (M : FVec F S448x256 .f32) (w : Fin 2 → Fin 7 → IVec S8x128 32)
    (tab : Fin 2 → Fin 4 → Fin 2 → Vec F S1x1x1x8x128 .i32) (h : Fin 2) (a : FVec F S8x128 .f32) : FVec F S8x128 .f32 :=
  places.foldl (fun a p => addf a (mulf (part M h p.1 p.2) (decOf (w h p.1) tab p.2))) a

/-! ### The trip's rectangles -/

/-- Where half `h`, group `b`, position `j` of trip `k` is stored. -/
def offDw (k : Fin k1_t1_loop.trips) (h : Fin 2) (b : Fin 7) (j : Fin 8) : Fin 5 → ℕ :=
  match h, j with
  | 0, 0 => k1_off5 k (BitVec.ofNat 32 b.val)
  | 0, 1 => k1_off6 k (BitVec.ofNat 32 b.val)
  | 0, 2 => k1_off7 k (BitVec.ofNat 32 b.val)
  | 0, 3 => k1_off8 k (BitVec.ofNat 32 b.val)
  | 0, 4 => k1_off9 k (BitVec.ofNat 32 b.val)
  | 0, 5 => k1_off10 k (BitVec.ofNat 32 b.val)
  | 0, 6 => k1_off11 k (BitVec.ofNat 32 b.val)
  | 0, 7 => k1_off12 k (BitVec.ofNat 32 b.val)
  | 1, 0 => k1_off15 k (BitVec.ofNat 32 b.val)
  | 1, 1 => k1_off16 k (BitVec.ofNat 32 b.val)
  | 1, 2 => k1_off17 k (BitVec.ofNat 32 b.val)
  | 1, 3 => k1_off18 k (BitVec.ofNat 32 b.val)
  | 1, 4 => k1_off19 k (BitVec.ofNat 32 b.val)
  | 1, 5 => k1_off20 k (BitVec.ofNat 32 b.val)
  | 1, 6 => k1_off21 k (BitVec.ofNat 32 b.val)
  | 1, 7 => k1_off22 k (BitVec.ofNat 32 b.val)

theorem offDw_eq (k : Fin k1_t1_loop.trips) (h : Fin 2) (b : Fin 7) (j : Fin 8) :
    offDw k h b j = ![h.val, 7 * k.val + b.val, j.val, 0, 0] := by
  fin_cases h <;> fin_cases j
  · exact k1_off5_eq k b
  · exact k1_off6_eq k b
  · exact k1_off7_eq k b
  · exact k1_off8_eq k b
  · exact k1_off9_eq k b
  · exact k1_off10_eq k b
  · exact k1_off11_eq k b
  · exact k1_off12_eq k b
  · exact k1_off15_eq k b
  · exact k1_off16_eq k b
  · exact k1_off17_eq k b
  · exact k1_off18_eq k b
  · exact k1_off19_eq k b
  · exact k1_off20_eq k b
  · exact k1_off21_eq k b
  · exact k1_off22_eq k b

def offIdx (k : Fin k1_t1_loop.trips) (h : Fin 2) (b : Fin 7) : Fin 4 → ℕ :=
  match h with
  | 0 => k1_off4 k (BitVec.ofNat 32 b.val)
  | 1 => k1_off14 k (BitVec.ofNat 32 b.val)

theorem offIdx_eq (k : Fin k1_t1_loop.trips) (h : Fin 2) (b : Fin 7) :
    offIdx k h b = ![h.val, 7 * k.val + b.val, 0, 0] := by
  fin_cases h
  · exact k1_off4_eq k b
  · exact k1_off14_eq k b

def offW (k : Fin k1_t1_loop.trips) (h : Fin 2) (b : Fin 7) : Fin 2 → ℕ :=
  match h with
  | 0 => k1_off3 k (BitVec.ofNat 32 b.val)
  | 1 => k1_off13 k (BitVec.ofNat 32 b.val)

theorem offW_eq (k : Fin k1_t1_loop.trips) (h : Fin 2) (b : Fin 7) :
    offW k h b = ![56 * k.val + 8 * b.val, 128 * h.val] := by
  fin_cases h
  · exact k1_off3_eq k b
  · exact k1_off13_eq k b

theorem trips_lt (k : Fin k1_t1_loop.trips) : k.val < 8 := Nat.lt_of_lt_of_le k.isLt k1_t1_abs.2.1

theorem inbDw (k : Fin k1_t1_loop.trips) (h : Fin 2) (b : Fin 7) (j : Fin 8) (a : Fin S2x56x8x8x128.rank) :
    offDw k h b j a + S1x1x1x8x128.size a ≤ S2x56x8x8x128.size a := by
  have := trips_lt k; have := h.isLt; have := b.isLt; have := j.isLt
  rw [offDw_eq]
  fin_cases a <;> simp [S1x1x1x8x128, S2x56x8x8x128] <;> omega

theorem inbIdx (k : Fin k1_t1_loop.trips) (h : Fin 2) (b : Fin 7) (a : Fin S2x56x8x128.rank) :
    offIdx k h b a + S1x1x8x128.size a ≤ S2x56x8x128.size a := by
  have := trips_lt k; have := h.isLt; have := b.isLt
  rw [offIdx_eq]
  fin_cases a <;> simp [S1x1x8x128, S2x56x8x128] <;> omega

theorem inbW (k : Fin k1_t1_loop.trips) (h : Fin 2) (b : Fin 7) (a : Fin S448x256.rank) :
    offW k h b a + S8x128.size a ≤ S448x256.size a := by
  have := trips_lt k; have := h.isLt; have := b.isLt
  rw [offW_eq]
  fin_cases a <;> simp [S8x128, S448x256] <;> omega

theorem inbX (k : Fin k1_t1_loop.trips) (a : Fin S3584x1536.rank) :
    k1_off2 k a + S448x1536.size a ≤ S3584x1536.size a := by
  have := trips_lt k
  rw [k1_off2_eq]
  fin_cases a <;> simp [S448x1536, S3584x1536] <;> omega

theorem inbTab : ∀ (m : Fin 2) (p : Fin 4) (u : Fin 2) (a : Fin S2x4x2x8x128.rank),
    (![m.val, p.val, u.val, 0, 0] : Fin 5 → ℕ) a + S1x1x1x8x128.size a ≤ S2x4x2x8x128.size a := by decide +kernel

theorem inbS : ∀ (h : Fin 2) (a : Fin S1x1x256.rank),
    (![0, 0, 128 * h.val] : Fin 3 → ℕ) a + S1x1x128.size a ≤ S1x1x256.size a := by decide +kernel

/-- The words of half `h`, group `b` of trip `k`. -/
def wordsAt (C : Vec F S448x256 .i32) (k : Fin k1_t1_loop.trips) (h : Fin 2) (b : Fin 7) : IVec S8x128 32 :=
  View.ld C (Rect.unit (s := S448x256) (offW k h b) S8x128.size (inbW k h b))

/-- The table of codebook `m`, pair `p`, half `u`. -/
def tabAt (T : Vec F S2x4x2x8x128 .i32) (m : Fin 2) (p : Fin 4) (u : Fin 2) : Vec F S1x1x1x8x128 .i32 :=
  View.ld T (Rect.unit (s := S2x4x2x8x128) ![m.val, p.val, u.val, 0, 0] S1x1x1x8x128.size (inbTab m p u))

/-- The row scales of half `h`. -/
def scaleAt (S : Vec F S1x1x256 .f32) (h : Fin 2) : FVec F S1x128 .f32 :=
  shapeCast S1x128 (View.ld S (Rect.unit (s := S1x1x256) ![0, 0, 128 * h.val] S1x1x128.size (inbS h))) shapeCasts_S1x1x128_S1x128

/-- The product of trip `k`. -/
def prodAt (X : Vec F S3584x1536 .bf16) (D : Vec F S1536x256 .bf16) (k : Fin k1_t1_loop.trips) : FVec F S448x256 .f32 :=
  k1_pay3 (View.ld X (Rect.unit (s := S3584x1536) (k1_off2 k) S448x1536.size (inbX k)))
    (View.ld D (Rect.unit (s := S1536x256) ![0, 0] S1536x256.size inb_S1536x256_S1536x256_0_0))

/-! ### The trip -/

/-- The carried sums. -/
theorem trip_carry (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) (acc : FVec F S8x128 .f32 × FVec F S8x128 .f32) :
    (trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).1 acc
      = (carry (prodAt (arg1.view.read (Elt F) X_arg1) (arg10.view.read (Elt F) X_arg10) k) (wordsAt (arg11.view.read (Elt F) X_arg11) k) (tabAt (arg5.view.read (Elt F) X_arg5)) 0 acc.1,
         carry (prodAt (arg1.view.read (Elt F) X_arg1) (arg10.view.read (Elt F) X_arg10) k) (wordsAt (arg11.view.read (Elt F) X_arg11) k) (tabAt (arg5.view.read (Elt F) X_arg5)) 1 acc.2) := by
  unfold trip_k1_t1
  sl_kernel_rfl

/-- The stored products, last first. -/
theorem trip_pieces (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) (acc : FVec F S8x128 .f32 × FVec F S8x128 .f32) :
    (trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.1 acc
      = [1, 0].flatMap fun h => places.reverse.map fun p =>
          ⟨Rect.unit (s := S2x56x8x8x128) (offDw k h p.1 p.2) S1x1x1x8x128.size (inbDw k h p.1 p.2),
            weightedPart (prodAt (arg1.view.read (Elt F) X_arg1) (arg10.view.read (Elt F) X_arg10) k) (scaleAt (arg6.view.read (Elt F) X_arg6) h) h p.1 p.2⟩ := by
  unfold trip_k1_t1
  sl_kernel_rfl

/-- The stored table places, last first. -/
theorem trip_indices (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt F) arg1.view.ty) (X_arg5 : BufTy.Contents (Elt F) arg5.view.ty) (X_arg6 : BufTy.Contents (Elt F) arg6.view.ty) (X_arg10 : BufTy.Contents (Elt F) arg10.view.ty) (X_arg11 : BufTy.Contents (Elt F) arg11.view.ty) (k : Fin k1_t1_loop.trips) (acc : FVec F S8x128 .f32 × FVec F S8x128 .f32) :
    (trip_k1_t1 (F := F) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.2.1 acc
      = [1, 0].flatMap fun h => [6, 5, 4, 3, 2, 1, 0].map fun b =>
          ⟨Rect.unit (s := S2x56x8x128) (offIdx k h b) S1x1x8x128.size (inbIdx k h b),
            k1_pay5 (F := F) k1_pay785 (wordsAt (arg11.view.read (Elt F) X_arg11) k h b)⟩ := by
  unfold trip_k1_t1
  sl_kernel_rfl

end Cert.KernelIdeal.Gen
-- ==== Proof.BlockIndex.lean ====
/- The trip's formulas read at an index, over the extended reals. -/
module

public import proofs.«01_k».proof.Proof.TripValue
public import Idealize.ShloMosaic.Lib.Pointwise

@[expose] public section

set_option maxRecDepth 100000
set_option maxHeartbeats 400000

noncomputable section

namespace Cert.KernelIdeal.Gen

open Idealize.ShloMosaic Idealize.ShloMosaic.TcCoe Idealize.ShloMosaic.Tactic
open Idealize.SL

/-- An entry of the product. -/
def dwAt (X : Vec Ideal S3584x1536 .bf16) (D : Vec Ideal S1536x256 .bf16) (r : Fin 3584) (c : Fin 256) : EReal :=
  ∑ t : Fin 1536, X (ix2 r t) * D (ix2 t c)

theorem prodAt_apply (X : Vec Ideal S3584x1536 .bf16) (D : Vec Ideal S1536x256 .bf16) (k : Fin k1_t1_loop.trips)
    (r : Fin 448) (c : Fin 256) :
    prodAt X D k (ix2 r c) = dwAt X D ⟨448 * k.val + r.val, by have := trips_lt k; have := r.isLt; omega⟩ c := by
  unfold prodAt dwAt
  pointwise [k1_pay3]
  have e0 : k1_off2 k 0 = 448 * k.val := congrFun (k1_off2_eq k) 0
  have e1 : k1_off2 k 1 = 0 := congrFun (k1_off2_eq k) 1
  simp only [e0, e1, Nat.zero_add]

theorem part_apply (M : FVec Ideal S448x256 .f32) (h : Fin 2) (b : Fin 7) (j : Fin 8) (s : Fin 8) (l : Fin 128) :
    part M h b j (ix2 s l) = M (ix2 ⟨64 * b.val + 8 * j.val + s.val, by omega⟩ ⟨128 * h.val + l.val, by omega⟩) := by
  unfold part
  pointwise

theorem scaleAt_apply (S : Vec Ideal S1x1x256 .f32) (h : Fin 2) (l : Fin 128) :
    scaleAt S h (ix2 0 l) = S (ix3 0 0 ⟨128 * h.val + l.val, by omega⟩) := by
  unfold scaleAt
  pointwise

theorem weightedPart_apply (M : FVec Ideal S448x256 .f32) (S : FVec Ideal S1x128 .f32) (h : Fin 2) (b : Fin 7) (j : Fin 8)
    (s : Fin 8) (l : Fin 128) :
    weightedPart M S h b j (ix5 0 0 0 s l) = part M h b j (ix2 s l) * S (ix2 0 l) := by
  unfold weightedPart
  pointwise

theorem wordsAt_apply (C : Vec Ideal S448x256 .i32) (k : Fin k1_t1_loop.trips) (h : Fin 2) (b : Fin 7) (s : Fin 8) (l : Fin 128) :
    wordsAt C k h b (ix2 s l) = C (ix2 ⟨56 * k.val + 8 * b.val + s.val, by have := trips_lt k; omega⟩ ⟨128 * h.val + l.val, by omega⟩) := by
  unfold wordsAt
  pointwise
  have e0 : offW k h b 0 = 56 * k.val + 8 * b.val := congrFun (offW_eq k h b) 0
  have e1 : offW k h b 1 = 128 * h.val := congrFun (offW_eq k h b) 1
  simp only [e0, e1]

/-- The code of codebook `m` in a word. -/
def codeW (m : Fin 2) (w : BitVec 32) : BitVec 32 :=
  IntOp.andi (IntOp.shrsi .vector w (match m with | 0 => 0#32 | 1 => 16#32)) 255#32

/-- The table word a code selects, for codebook `m` and pair `p`, in the tables' row `s`. -/
def entryW (T : Vec Ideal S2x4x2x8x128 .i32) (m : Fin 2) (p : Fin 4) (s : Fin 8) (w : BitVec 32) : BitVec 32 :=
  Scalar.select (IntOp.cmpi .sge (codeW m w) 128#32)
    (T (ix5 m p 1 s ⟨(IntOp.andi (codeW m w) 127#32).toNat % 128, Nat.mod_lt _ (by decide)⟩))
    (T (ix5 m p 0 s ⟨(IntOp.andi (codeW m w) 127#32).toNat % 128, Nat.mod_lt _ (by decide)⟩))

/-- The half of a word that holds component `j`, as the bits of a 32-bit float. -/
def halfW (j : Fin 8) (e : BitVec 32) : BitVec 32 :=
  if j.val % 2 = 0 then IntOp.shli .vector e 16#32 else IntOp.andi e 4294901760#32

/-- Component `j` of the entry of codebook `m`. -/
def compW (T : Vec Ideal S2x4x2x8x128 .i32) (m : Fin 2) (j : Fin 8) (s : Fin 8) (w : BitVec 32) : EReal :=
  Ideal.ofBits .f32 (halfW j (entryW T m ⟨j.val / 2, by omega⟩ s w))

theorem codeOf_apply (m : Fin 2) (w : IVec S8x128 32) (y : S8x128.Idx) : codeOf m w y = codeW m (w y) := by
  fin_cases m <;> rfl

theorem laneOf_apply (m : Fin 2) (w : IVec S8x128 32) (s : Fin 8) (l : Fin 128) :
    laneWord m w (ix2 s l) = IntOp.andi (codeW m (w (ix2 s l))) 127#32 := by
  unfold laneWord
  pointwise
  rw [codeOf_apply]

theorem tabAt_apply (T : Vec Ideal S2x4x2x8x128 .i32) (m : Fin 2) (p : Fin 4) (u : Fin 2) (s : Fin 8) (l : Fin 128) :
    tabAt T m p u (ix5 0 0 0 s l) = T (ix5 m p u s l) := by
  unfold tabAt
  pointwise

theorem wordOf_apply (w : IVec S8x128 32) (T : Vec Ideal S2x4x2x8x128 .i32) (m : Fin 2) (p : Fin 4) (s : Fin 8) (l : Fin 128) :
    wordOf (F := Ideal) w (tabAt T) m p (ix2 s l) = entryW T m p s (w (ix2 s l)) := by
  unfold wordOf entryW
  pointwise
  simp only [codeOf_apply, laneOf_apply, tabAt_apply]

theorem compOf_apply (w : IVec S8x128 32) (T : Vec Ideal S2x4x2x8x128 .i32) (m : Fin 2) (j : Fin 8) (s : Fin 8) (l : Fin 128) :
    compOf (F := Ideal) w (tabAt T) m j (ix2 s l) = compW T m j s (w (ix2 s l)) := by
  have even (p : Fin 4) : bitcastToFloat (F := Ideal) .f32 (shli (wordOf w (tabAt T) m p) (broadcast S8x128 16#32)) (ix2 s l)
      = Ideal.ofBits .f32 (IntOp.shli .vector (entryW T m p s (w (ix2 s l))) 16#32) := by
    rw [← wordOf_apply]; rfl
  have odd (p : Fin 4) : bitcastToFloat (F := Ideal) .f32 (andi (wordOf w (tabAt T) m p) (broadcast S8x128 4294901760#32)) (ix2 s l)
      = Ideal.ofBits .f32 (IntOp.andi (entryW T m p s (w (ix2 s l))) 4294901760#32) := by
    rw [← wordOf_apply]; rfl
  fin_cases j
  · exact even 0
  · exact odd 0
  · exact even 1
  · exact odd 1
  · exact even 2
  · exact odd 2
  · exact even 3
  · exact odd 3

/-- One term of the row-scale gradient: the product's entry of half `h`, group `b`, position `j` in trip `k`, times the
    decoded weight. -/
def termAt (X : Vec Ideal S3584x1536 .bf16) (D : Vec Ideal S1536x256 .bf16) (C : Vec Ideal S448x256 .i32)
    (T : Vec Ideal S2x4x2x8x128 .i32) (h : Fin 2) (k : Fin 8) (s : Fin 8) (l : Fin 128) (p : Fin 7 × Fin 8) : EReal :=
  dwAt X D ⟨448 * k.val + (64 * p.1.val + 8 * p.2.val + s.val), by omega⟩ ⟨128 * h.val + l.val, by omega⟩
    * (compW T 0 p.2 s (C (ix2 ⟨56 * k.val + 8 * p.1.val + s.val, by omega⟩ ⟨128 * h.val + l.val, by omega⟩))
      + compW T 1 p.2 s (C (ix2 ⟨56 * k.val + 8 * p.1.val + s.val, by omega⟩ ⟨128 * h.val + l.val, by omega⟩)))

theorem foldl_addf_apply (f : Fin 7 × Fin 8 → FVec Ideal S8x128 .f32) (g : Fin 7 × Fin 8 → EReal) (y : S8x128.Idx)
    (hfg : ∀ p, f p y = g p) (L : List (Fin 7 × Fin 8)) (a : FVec Ideal S8x128 .f32) :
    (L.foldl (fun a p => addf a (f p)) a) y = a y + (L.map g).sum := by
  induction L generalizing a with
  | nil => simp
  | cons p L ih =>
    rw [List.foldl_cons, ih, List.map_cons, List.sum_cons, ← hfg p]
    exact add_assoc (a y) (f p y) _

theorem sum_places (g : Fin 7 × Fin 8 → EReal) : (places.map g).sum = ∑ b : Fin 7, ∑ j : Fin 8, g (b, j) := by
  simp only [places, List.flatMap_cons, List.flatMap_nil, List.map_append, List.map_cons, List.map_nil, List.sum_append,
    List.sum_cons, List.sum_nil, add_zero, Fin.sum_univ_seven, Fin.sum_univ_eight, add_assoc]

theorem carry_apply (X : Vec Ideal S3584x1536 .bf16) (D : Vec Ideal S1536x256 .bf16) (C : Vec Ideal S448x256 .i32)
    (T : Vec Ideal S2x4x2x8x128 .i32) (k : Fin k1_t1_loop.trips) (h : Fin 2) (a : FVec Ideal S8x128 .f32) (s : Fin 8) (l : Fin 128) :
    carry (prodAt X D k) (wordsAt C k) (tabAt T) h a (ix2 s l)
      = a (ix2 s l) + ∑ b : Fin 7, ∑ j : Fin 8, termAt X D C T h ⟨k.val, trips_lt k⟩ s l (b, j) := by
  unfold carry
  rw [foldl_addf_apply _ (termAt X D C T h ⟨k.val, trips_lt k⟩ s l) _ (fun p => ?_), sum_places]
  show part (prodAt X D k) h p.1 p.2 (ix2 s l)
    * (compOf (F := Ideal) (wordsAt C k h p.1) (tabAt T) 0 p.2 (ix2 s l) + compOf (F := Ideal) (wordsAt C k h p.1) (tabAt T) 1 p.2 (ix2 s l)) = _
  rw [compOf_apply, compOf_apply, wordsAt_apply, part_apply, prodAt_apply]
  rfl

/-- What the first output's block holds. -/
def outDw (X : Vec Ideal S3584x1536 .bf16) (D : Vec Ideal S1536x256 .bf16) (S : Vec Ideal S1x1x256 .f32) :
    Vec Ideal S2x56x8x8x128 .f32 := fun y =>
  dwAt X D ⟨64 * (y 1).val + 8 * (y 2).val + (y 3).val, by
      have h1 : (y 1).val < 56 := (y 1).isLt
      have h2 : (y 2).val < 8 := (y 2).isLt
      have h3 : (y 3).val < 8 := (y 3).isLt
      omega⟩ ⟨128 * (y 0).val + (y 4).val, by
      have h0 : (y 0).val < 2 := (y 0).isLt
      have h4 : (y 4).val < 128 := (y 4).isLt
      omega⟩
    * S (ix3 0 0 ⟨128 * (y 0).val + (y 4).val, by
      have h0 : (y 0).val < 2 := (y 0).isLt
      have h4 : (y 4).val < 128 := (y 4).isLt
      omega⟩)

theorem outDw_eq (X : Vec Ideal S3584x1536 .bf16) (D : Vec Ideal S1536x256 .bf16) (S : Vec Ideal S1x1x256 .f32)
    (y : S2x56x8x8x128.Idx) (r : Fin 3584) (c : Fin 256) (hr : r.val = 64 * (y 1).val + 8 * (y 2).val + (y 3).val)
    (hc : c.val = 128 * (y 0).val + (y 4).val) : outDw X D S y = dwAt X D r c * S (ix3 0 0 c) := by
  obtain ⟨r, hr'⟩ := r; obtain ⟨c, hc'⟩ := c
  dsimp only at hr hc
  subst hr hc
  rfl

/-- What the second output's block holds. -/
def outIdx (C : Vec Ideal S448x256 .i32) : Vec Ideal S2x56x8x128 .i32 := fun y =>
  IntOp.ori (IntOp.shli .vector (C (ix2 ⟨8 * (y 1).val + (y 2).val, by
      have h1 : (y 1).val < 56 := (y 1).isLt
      have h2 : (y 2).val < 8 := (y 2).isLt
      omega⟩ ⟨128 * (y 0).val + (y 3).val, by
      have h0 : (y 0).val < 2 := (y 0).isLt
      have h4 : (y 3).val < 128 := (y 3).isLt
      omega⟩)) 4#32) (k1_pay785 (ix2 0 ⟨(y 3).val, (y 3).isLt⟩))

theorem outIdx_eq (C : Vec Ideal S448x256 .i32) (y : S2x56x8x128.Idx) (r : Fin 448) (c : Fin 256) (l : Fin 128)
    (hr : r.val = 8 * (y 1).val + (y 2).val) (hc : c.val = 128 * (y 0).val + (y 3).val) (hl : l.val = (y 3).val) :
    outIdx C y = IntOp.ori (IntOp.shli .vector (C (ix2 r c)) 4#32) (k1_pay785 (ix2 0 l)) := by
  obtain ⟨r, hr'⟩ := r; obtain ⟨c, hc'⟩ := c; obtain ⟨l, hl'⟩ := l
  dsimp only at hr hc hl
  subst hr hc hl
  rfl

theorem slot_apply (s : Fin 8) (l : Fin 128) : k1_pay785 (ix2 s l) = k1_pay785 (ix2 0 l) := by
  pointwise [k1_pay785]

/-- Every piece of a trip agrees with the first output's block. -/
theorem trip_pieces_agree (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt Ideal) arg1.view.ty) (X_arg5 : BufTy.Contents (Elt Ideal) arg5.view.ty) (X_arg6 : BufTy.Contents (Elt Ideal) arg6.view.ty) (X_arg10 : BufTy.Contents (Elt Ideal) arg10.view.ty) (X_arg11 : BufTy.Contents (Elt Ideal) arg11.view.ty) (k : Fin k1_t1_loop.trips) (acc : FVec Ideal S8x128 .f32 × FVec Ideal S8x128 .f32) :
    ∀ p ∈ (trip_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.1 acc, ∀ x : p.1.shape.Idx, p.2 x = outDw (arg1.view.read (Elt Ideal) X_arg1) (arg10.view.read (Elt Ideal) X_arg10) (arg6.view.read (Elt Ideal) X_arg6) (p.1.emb x) := by
  rw [trip_pieces]
  intro p hp
  simp only [List.mem_flatMap, List.mem_map] at hp
  obtain ⟨h, -, q, -, rfl⟩ := hp
  intro (x : S1x1x1x8x128.Idx)
  obtain ⟨s, l, rfl⟩ : ∃ (s : Fin 8) (l : Fin 128), x = ix5 0 0 0 s l := ⟨x 3, x 4, by
    rw [eq_ix5 x]; congr 1 <;> exact Subsingleton.elim _ _⟩
  have hk := trips_lt k
  refine (weightedPart_apply _ _ h q.1 q.2 s l).trans ?_
  rw [part_apply, prodAt_apply, scaleAt_apply]
  refine (outDw_eq _ _ _ _ _ _ ?_ ?_).symm
  · show 448 * k.val + (64 * q.1.val + 8 * q.2.val + s.val) = 64 * (offDw k h q.1 q.2 1 + 1 * 0) + 8 * (offDw k h q.1 q.2 2 + 1 * 0) + (offDw k h q.1 q.2 3 + 1 * s.val)
    rw [offDw_eq]
    show _ = 64 * ((7 * k.val + q.1.val) + 1 * 0) + 8 * (q.2.val + 1 * 0) + (0 + 1 * s.val)
    omega
  · show 128 * h.val + l.val = 128 * (offDw k h q.1 q.2 0 + 1 * 0) + (offDw k h q.1 q.2 4 + 1 * l.val)
    rw [offDw_eq]
    show _ = 128 * (h.val + 1 * 0) + (0 + 1 * l.val)
    omega

/-- Every piece of a trip agrees with the second output's block. -/
theorem trip_indices_agree (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt Ideal) arg1.view.ty) (X_arg5 : BufTy.Contents (Elt Ideal) arg5.view.ty) (X_arg6 : BufTy.Contents (Elt Ideal) arg6.view.ty) (X_arg10 : BufTy.Contents (Elt Ideal) arg10.view.ty) (X_arg11 : BufTy.Contents (Elt Ideal) arg11.view.ty) (k : Fin k1_t1_loop.trips) (acc : FVec Ideal S8x128 .f32 × FVec Ideal S8x128 .f32) :
    ∀ p ∈ (trip_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 k).2.2.1 acc, ∀ x : p.1.shape.Idx, p.2 x = outIdx (arg11.view.read (Elt Ideal) X_arg11) (p.1.emb x) := by
  rw [trip_indices]
  intro p hp
  simp only [List.mem_flatMap, List.mem_map] at hp
  obtain ⟨h, -, b, -, rfl⟩ := hp
  intro (x : S1x1x8x128.Idx)
  obtain ⟨s, l, rfl⟩ : ∃ (s : Fin 8) (l : Fin 128), x = ix4 0 0 s l := ⟨x 2, x 3, by
    rw [eq_ix4 x]; congr 1 <;> exact Subsingleton.elim _ _⟩
  have hk := trips_lt k
  have e : k1_pay5 (F := Ideal) k1_pay785 (wordsAt (arg11.view.read (Elt Ideal) X_arg11) k h b) (ix4 0 0 s l)
      = IntOp.ori (IntOp.shli .vector (wordsAt (arg11.view.read (Elt Ideal) X_arg11) k h b (ix2 s l)) 4#32) (k1_pay785 (ix2 s l)) := by
    pointwise [k1_pay5]
  refine e.trans ?_
  rw [wordsAt_apply, slot_apply]
  refine (outIdx_eq _ _ _ _ _ ?_ ?_ ?_).symm
  · show 56 * k.val + 8 * b.val + s.val = 8 * (offIdx k h b 1 + 1 * 0) + (offIdx k h b 2 + 1 * s.val)
    rw [offIdx_eq]
    show _ = 8 * ((7 * k.val + b.val) + 1 * 0) + (0 + 1 * s.val)
    omega
  · show 128 * h.val + l.val = 128 * (offIdx k h b 0 + 1 * 0) + (offIdx k h b 3 + 1 * l.val)
    rw [offIdx_eq]
    show _ = 128 * (h.val + 1 * 0) + (0 + 1 * l.val)
    omega
  · show l.val = offIdx k h b 3 + 1 * l.val
    rw [offIdx_eq]
    show _ = 0 + 1 * l.val
    omega

end Cert.KernelIdeal.Gen
-- ==== Proof.TcRun.lean ====
/- The body of the matrix-product calls, run once for all of them: the pieces its stores leave in each output block
   (`tcRun`), that they cover it, and the triple the calls' body obligations cite (`tc_sound`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body every matrix-product call shares

The calls differ in the first block of output columns they take and in how many; a call's body at a grid point is one text over
where its two windows of scales begin and over the lane each reads. -/

/-- Where a body reads the scales of its two blocks of 128 columns: the windows' offsets, inside the array, and the lanes. -/
structure ScaleAt where
  off0 : Fin 2 → Nat
  off1 : Fin 2 → Nat
  inb0 : ∀ a, off0 a + S1536x128.size a ≤ S1536x256.size a
  inb1 : ∀ a, off1 a + S1536x128.size a ≤ S1536x256.size a
  lane0 : BitVec 32
  lane1 : BitVec 32

/-- The lane of block `b` in its window of 128 scales: the remainder of `b` by 128, as the kernel computes it. -/
def laneOf (b : BitVec 32) : BitVec 32 :=
  let d : BitVec 32 := Scalar.select (Scalar.cmpi .eq 128#32 0#32) 1#32 128#32
  let r : BitVec 32 := Scalar.remsi b d
  Scalar.select (Scalar.andi (Scalar.xori (Scalar.cmpi .slt r 0#32) (Scalar.cmpi .slt d 0#32)) (Scalar.cmpi .ne r 0#32)) (Scalar.addi r d) r

/-- Half `h` of grid point `i` of the call whose first block is `first`: its block of 128 columns. -/
def blockOf (first : BitVec 32) (i : Nat) (h : BitVec 32) : BitVec 32 :=
  Scalar.addi (Scalar.muli (Scalar.addi first (BitVec.ofNat 32 i)) 2#32) h

/-- One lane of a window of scales, in every column of a block. -/
def scaleBlk (l : BitVec 32) (v34 : Vec F S1536x128 .f32) : FVec F S1536x128 .bf16 :=
  truncf .bf16 (dynamicGather 1 (shapeCast S1536x128 v34 shapeCasts_S1536x128_S1536x128 : FVec F S1536x128 .f32)
    (shapeCast S1536x128 (shapeCast S1536x128x1 (broadcast S1536x128 l : IVec S1536x128 32) shapeCasts_S1536x128_S1536x128x1 : IVec S1536x128x1 32) shapeCasts_S1536x128x1_S1536x128 : IVec S1536x128 32)) bitsLt_bf16_f32

/-- The grid point the shared text names (the loop's region does not read it). -/
def tcPoint : grid1.Coords := grid1.coords ⟨0, by decide⟩

/-- The body of a matrix-product call up to its loop: the scaled gradient block, the packed codes, then the loop. -/
noncomputable def tcPart (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    Prog (TpuEff nD τ sig (Elt F) Λ₀ .tc) (Σ' (v115_0 : FVec F S8x128 .f32), FVec F S8x128 .f32) := do
  let v34 : Vec F S1536x128 .f32 ← Prog.lift (.load arg3 (Rect.unit (s := S1536x256) o.off0 S1536x128.size o.inb0).toLoadRect (View.loadsAt_vmem h_S1536x128))
  let v40 : Vec F S1536x128 .fp8e5m2 ← Prog.lift (.load arg2 (Rect.unit (s := S1536x256) ![0, 0] S1536x128.size inb_S1536x256_S1536x128_0_0).toLoadRect (View.loadsAt_vmem h_S1536x128))
  let v44 : Vec F S1536x128 .bf16 ← Prog.lift (.load arg10 (Rect.unit (s := S1536x256) ![0, 0] S1536x128.size inb_S1536x256_S1536x128_0_0).toLoadRect (View.loadsAt_vmem h_S1536x128))
  Prog.lift (.store arg10 (Rect.unit (s := S1536x256) ![0, 0] S1536x128.size inb_S1536x256_S1536x128_0_0) (k1_pay782 (scaleBlk o.lane0 v34) v40) Finset.univ (View.stores_vmem h_S1536x128 (harg10.storeExact_slice rfl _ packedbf16_S1536x256_S1536x128_0_0) (fun _ => rfl)) (.inl rfl))
  let v81 : Vec F S1536x128 .f32 ← Prog.lift (.load arg3 (Rect.unit (s := S1536x256) o.off1 S1536x128.size o.inb1).toLoadRect (View.loadsAt_vmem h_S1536x128))
  let v87 : Vec F S1536x128 .fp8e5m2 ← Prog.lift (.load arg2 (Rect.unit (s := S1536x256) ![0, 128] S1536x128.size inb_S1536x256_S1536x128_0_128).toLoadRect (View.loadsAt_vmem h_S1536x128))
  let v91 : Vec F S1536x128 .bf16 ← Prog.lift (.load arg10 (Rect.unit (s := S1536x256) ![0, 128] S1536x128.size inb_S1536x256_S1536x128_0_128).toLoadRect (View.loadsAt_vmem h_S1536x128))
  Prog.lift (.store arg10 (Rect.unit (s := S1536x256) ![0, 128] S1536x128.size inb_S1536x256_S1536x128_0_128) (k1_pay783 o.lane1 v81 v87) Finset.univ (View.stores_vmem h_S1536x128 (harg10.storeExact_slice rfl _ packedbf16_S1536x256_S1536x128_0_128) (fun _ => rfl)) (.inl rfl))
  let v94 : Vec F S1x256x448 .i8 ← Prog.lift (.load arg4 (Rect.unit (s := S2x256x448) ![0, 0, 0] S1x256x448.size inb_S2x256x448_S1x256x448_0_0_0).toLoadRect (View.loadsAt_vmem h_S1x256x448))
  let v97 : Vec F S1x256x448 .i8 ← Prog.lift (.load arg4 (Rect.unit (s := S2x256x448) ![1, 0, 0] S1x256x448.size inb_S2x256x448_S1x256x448_1_0_0).toLoadRect (View.loadsAt_vmem h_S1x256x448))
  let v104 : Vec F S448x256 .i32 ← Prog.lift (.load arg11 (Rect.unit (s := S448x256) ![0, 0] S448x256.size inb_S448x256_S448x256_0_0).toLoadRect (View.loadsAt_vmem h_S448x256))
  Prog.lift (.store arg11 (Rect.unit (s := S448x256) ![0, 0] S448x256.size inb_S448x256_S448x256_0_0) (k1_pay784 v94 v97) Finset.univ (View.stores_vmem_bits_univ h_S448x256 rfl) (.inl rfl))
  let (v115_0, v115_1) ← Scf.Loop.for k1_t1_loop k1_t1_ok (k1_pay786 (F := F), k1_pay786 (F := F)) (k1_t1_body tcPoint arg1 harg1 arg2 harg2 arg3 harg3 arg4 harg4 arg5 harg5 arg6 harg6 arg7 harg7 arg8 harg8 arg9 harg9 arg10 harg10 arg11 harg11 0#32 0#32)
  pure ⟨v115_0, v115_1⟩

/-- The body of a matrix-product call. -/
noncomputable def tcBody (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    Prog (TpuEff nD τ sig (Elt F) Λ₀ .tc) PUnit := do
  let ⟨v115_0, v115_1⟩ : Σ' (v115_0 : FVec F S8x128 .f32), FVec F S8x128 .f32 ← tcPart o arg1 harg1 arg2 harg2 arg3 harg3 arg4 harg4 arg5 harg5 arg6 harg6 arg7 harg7 arg8 harg8 arg9 harg9 arg10 harg10 arg11 harg11
  let v118 : Vec F S1x1x128 .f32 ← Prog.lift (.load arg9 (Rect.unit (s := S1x1x256) ![0, 0, 0] S1x1x128.size inb_S1x1x256_S1x1x128_0_0_0).toLoadRect (View.loadsAt_vmem h_S1x1x128))
  Prog.lift (.store arg9 (Rect.unit (s := S1x1x256) ![0, 0, 0] S1x1x128.size inb_S1x1x256_S1x1x128_0_0_0) (k1_pay1 v115_0) Finset.univ (View.stores_vmem_bits_univ h_S1x1x128 rfl) (.inl rfl))
  let v123 : Vec F S1x1x128 .f32 ← Prog.lift (.load arg9 (Rect.unit (s := S1x1x256) ![0, 0, 128] S1x1x128.size inb_S1x1x256_S1x1x128_0_0_128).toLoadRect (View.loadsAt_vmem h_S1x1x128))
  Prog.lift (.store arg9 (Rect.unit (s := S1x1x256) ![0, 0, 128] S1x1x128.size inb_S1x1x256_S1x1x128_0_0_128) (k1_pay2 v115_1) Finset.univ (View.stores_vmem_bits_univ h_S1x1x128 rfl) (.inl rfl))
  pure ⟨⟩

/-- One staging buffer of output window 6, through which its contents are stated (`View.read_writes_of_cover`: the
    choice does not matter). -/
abbrev VO6 : View sig .tc .vmem S2x56x8x8x128 .f32 := (Memref.whole cc1_stg6_0 : Memref sig .tc .vmem S2x56x8x8x128 .f32).view
/-- One staging buffer of output window 7, through which its contents are stated (`View.read_writes_of_cover`: the
    choice does not matter). -/
abbrev VO7 : View sig .tc .vmem S2x56x8x128 .i32 := (Memref.whole cc1_stg7_0 : Memref sig .tc .vmem S2x56x8x128 .i32).view
/-- One staging buffer of output window 8, through which its contents are stated (`View.read_writes_of_cover`: the
    choice does not matter). -/
abbrev VO8 : View sig .tc .vmem S1x1x256 .f32 := (Memref.whole cc1_stg8_0 : Memref sig .tc .vmem S1x1x256 .f32).view
-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: `sl_exec` runs it (Lib/Exec.lean); the pieces are
    the witness that run finds (assigned when `iexact` hands the buffer to the continuation). -/
noncomputable def tcRun (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) :
    Σ' (L6 : List (View.Piece (Elt F) S2x56x8x8x128 .f32)), Σ' (L7 : List (View.Piece (Elt F) S2x56x8x128 .i32)), { L8 : List (View.Piece (Elt F) S1x1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d)) -∗ K ⟨⟩))
          ⊢ wp frame (wpE (defs₀ (F := F)) Variants.none c none) E (tcBody o arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold tcBody
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]
    · iexists _, _; isplitr; swap; · iexact HS0
      ipureintro; rfl
    iexists _, _; isplitr; swap; · iexact HS1
    ipureintro; rfl

/-- The run's pieces for output 6 tile its block (896 stores of `S1x1x1x8x128`, checked by the kernel's evaluation: Lib/Ring.lean `Piece.tiledL`, linear in the pieces, through a loop's `@[irreducible]` trip theorem too), so they cover it. -/
theorem tcCover6 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) (y : S2x56x8x8x128.Idx) :
    ∃ pc ∈ (tcRun c o arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (tcRun c o arg1 harg1 arg2 harg2 arg3 harg3 arg4 harg4 arg5 harg5 arg6 harg6 arg7 harg7 arg8 harg8 arg9 harg9 arg10 harg10 arg11 harg11 x0 x1 x2 x3 x4 x5).1 S1x1x1x8x128.size (by sl_kernel_rfl) y

/-- What the run leaves in output 6's staging buffer: its pieces read back over junk. -/
def tcOut6 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) : Vec F S2x56x8x8x128 .f32 :=
  VO6.read (Elt F) (VO6.writes (Elt F) VO6.junk (tcRun c o arg1 harg1 arg2 harg2 arg3 harg3 arg4 harg4 arg5 harg5 arg6 harg6 arg7 harg7 arg8 harg8 arg9 harg9 arg10 harg10 arg11 harg11 x0 x1 x2 x3 x4 x5).1)

/-- The run's pieces for output 7 tile its block (112 stores of `S1x1x8x128`, checked by the kernel's evaluation: Lib/Ring.lean `Piece.tiledL`, linear in the pieces, through a loop's `@[irreducible]` trip theorem too), so they cover it. -/
theorem tcCover7 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) (y : S2x56x8x128.Idx) :
    ∃ pc ∈ (tcRun c o arg1 harg1 arg2 harg2 arg3 harg3 arg4 harg4 arg5 harg5 arg6 harg6 arg7 harg7 arg8 harg8 arg9 harg9 arg10 harg10 arg11 harg11 x0 x1 x2 x3 x4 x5).2.1, y ∈ pc.1.set :=
  View.cover_of_tiledL (tcRun c o arg1 harg1 arg2 harg2 arg3 harg3 arg4 harg4 arg5 harg5 arg6 harg6 arg7 harg7 arg8 harg8 arg9 harg9 arg10 harg10 arg11 harg11 x0 x1 x2 x3 x4 x5).2.1 S1x1x8x128.size (by sl_kernel_rfl) y

/-- What the run leaves in output 7's staging buffer: its pieces read back over junk. -/
def tcOut7 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) : Vec F S2x56x8x128 .i32 :=
  VO7.read (Elt F) (VO7.writes (Elt F) VO7.junk (tcRun c o arg1 harg1 arg2 harg2 arg3 harg3 arg4 harg4 arg5 harg5 arg6 harg6 arg7 harg7 arg8 harg8 arg9 harg9 arg10 harg10 arg11 harg11 x0 x1 x2 x3 x4 x5).2.1)

/-- The run's pieces for output 8 tile its block (2 stores of `S1x1x128`, checked by the kernel's evaluation: Lib/Ring.lean `Piece.tiledL`, linear in the pieces, through a loop's `@[irreducible]` trip theorem too), so they cover it. -/
theorem tcCover8 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) (y : S1x1x256.Idx) :
    ∃ pc ∈ (tcRun c o arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (tcRun c o arg1 harg1 arg2 harg2 arg3 harg3 arg4 harg4 arg5 harg5 arg6 harg6 arg7 harg7 arg8 harg8 arg9 harg9 arg10 harg10 arg11 harg11 x0 x1 x2 x3 x4 x5).2.2.1 S1x1x128.size (by sl_kernel_rfl) y

/-- What the run leaves in output 8's staging buffer: its pieces read back over junk. -/
def tcOut8 (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32) : Vec F S1x1x256 .f32 :=
  VO8.read (Elt F) (VO8.writes (Elt F) VO8.junk (tcRun c o arg1 harg1 arg2 harg2 arg3 harg3 arg4 harg4 arg5 harg5 arg6 harg6 arg7 harg7 arg8 harg8 arg9 harg9 arg10 harg10 arg11 harg11 x0 x1 x2 x3 x4 x5).2.2.1)

/-- The run's triple in the form a call's body obligation takes: `R` is what of the scoped buffers is not this call's, `O` what is owed. -/
theorem tc_sound (c : Dev nD) (o : ScaleAt) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec F S3584x1536 .bf16) (x1 : Vec F S1536x256 .fp8e5m2) (x2 : Vec F S1536x256 .f32) (x3 : Vec F S2x256x448 .i8) (x4 : Vec F S2x4x2x8x128 .i32) (x5 : Vec F S1x1x256 .f32)
    {α6 α7 α8 : Type} (R O : sProp 𝕄) (y6 : α6 → Vec F S2x56x8x8x128 .f32) (y7 : α7 → Vec F S2x56x8x128 .i32) (y8 : α8 → Vec F S1x1x256 .f32)
    {α0 α1 α2 α3 α4 α5 : Type} :
    iprop((((∃ d, owns (c : Thread nD τ) arg10 fullShare d) ∗ (∃ d, owns (c : Thread nD τ) arg11 fullShare d)) ∗ R) ∗ O
      ∗ (∃ _d : α0, owns (c : Thread nD τ) arg1 fullShare x0) ∗ (∃ _d : α1, owns (c : Thread nD τ) arg2 fullShare x1) ∗ (∃ _d : α2, owns (c : Thread nD τ) arg3 fullShare x2) ∗ (∃ _d : α3, owns (c : Thread nD τ) arg4 fullShare x3) ∗ (∃ _d : α4, owns (c : Thread nD τ) arg5 fullShare x4) ∗ (∃ _d : α5, owns (c : Thread nD τ) arg6 fullShare x5)
      ∗ (∃ d, owns (c : Thread nD τ) arg7 fullShare (y6 d)) ∗ (∃ d, owns (c : Thread nD τ) arg8 fullShare (y7 d)) ∗ (∃ d, owns (c : Thread nD τ) arg9 fullShare (y8 d)))
    ⊢ wp frame (wpE (defs₀ (F := F)) Variants.none c none) Set.univ (tcBody o arg1 harg1 arg2 harg2 arg3 harg3 arg4 harg4 arg5 harg5 arg6 harg6 arg7 harg7 arg8 harg8 arg9 harg9 arg10 harg10 arg11 harg11) (fun _ =>
      iprop((((∃ d, owns (c : Thread nD τ) arg10 fullShare d) ∗ (∃ d, owns (c : Thread nD τ) arg11 fullShare d)) ∗ R) ∗ O
        ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare (tcOut6 c o arg1 harg1 arg2 harg2 arg3 harg3 arg4 harg4 arg5 harg5 arg6 harg6 arg7 harg7 arg8 harg8 arg9 harg9 arg10 harg10 arg11 harg11 x0 x1 x2 x3 x4 x5) ∗ owns (c : Thread nD τ) arg8 fullShare (tcOut7 c o arg1 harg1 arg2 harg2 arg3 harg3 arg4 harg4 arg5 harg5 arg6 harg6 arg7 harg7 arg8 harg8 arg9 harg9 arg10 harg10 arg11 harg11 x0 x1 x2 x3 x4 x5) ∗ owns (c : Thread nD τ) arg9 fullShare (tcOut8 c o arg1 harg1 arg2 harg2 arg3 harg3 arg4 harg4 arg5 harg5 arg6 harg6 arg7 harg7 arg8 harg8 arg9 harg9 arg10 harg10 arg11 harg11 x0 x1 x2 x3 x4 x5))) := by
  unfold tcOut6 tcOut7 tcOut8
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((tcRun c o arg1 harg1 arg2 harg2 arg3 harg3 arg4 harg4 arg5 harg5 arg6 harg6 arg7 harg7 arg8 harg8 arg9 harg9 arg10 harg10 arg11 harg11 x0 x1 x2 x3 x4 x5).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, HS0, HS1⟩
  isplitl [HS0 HS1 HR]
  · isplitl [HS0 HS1]
    · isplitl [HS0]
      · iexact HS0
      iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (tcCover6 c o arg1 harg1 arg2 harg2 arg3 harg3 arg4 harg4 arg5 harg5 arg6 harg6 arg7 harg7 arg8 harg8 arg9 harg9 arg10 harg10 arg11 harg11 x0 x1 x2 x3 x4 x5)
  isplitl [H7]
  · unfold owns; iexists _; isplitr
    swap; · iexact H7
    ipureintro; exact View.read_writes_of_cover _ _ _ _ _ (tcCover7 c o arg1 harg1 arg2 harg2 arg3 harg3 arg4 harg4 arg5 harg5 arg6 harg6 arg7 harg7 arg8 harg8 arg9 harg9 arg10 harg10 arg11 harg11 x0 x1 x2 x3 x4 x5)
  unfold owns; iexists _; isplitr
  swap; · iexact H8
  ipureintro; exact View.read_writes_of_cover _ _ _ _ _ (tcCover8 c o arg1 harg1 arg2 harg2 arg3 harg3 arg4 harg4 arg5 harg5 arg6 harg6 arg7 harg7 arg8 harg8 arg9 harg9 arg10 harg10 arg11 harg11 x0 x1 x2 x3 x4 x5)

end Cert.KernelIdeal.Gen

end
-- ==== Proof.BlockValue.lean ====
/- What the matrix-product call's body leaves in its output blocks, from its input blocks, over the extended reals. -/
module

public import proofs.«01_k».proof.Proof.BlockIndex
public import proofs.«01_k».proof.Proof.TcRun

@[expose] public section

set_option maxRecDepth 100000
set_option maxHeartbeats 400000

noncomputable section

namespace Cert.KernelIdeal.Gen

open Idealize.ShloMosaic Idealize.ShloMosaic.TcCoe Idealize.ShloMosaic.Tactic
open Idealize.SL

/-! ### All trips -/

theorem trips_eq : k1_t1_loop.trips = 8 := by decide +kernel

/-- What trip `k` adds to the sum of half `h`. -/
def tripSum (X : Vec Ideal S3584x1536 .bf16) (D : Vec Ideal S1536x256 .bf16) (C : Vec Ideal S448x256 .i32)
    (T : Vec Ideal S2x4x2x8x128 .i32) (h : Fin 2) (s : Fin 8) (l : Fin 128) (k : ℕ) : EReal :=
  if hk : k < 8 then ∑ b : Fin 7, ∑ j : Fin 8, termAt X D C T h ⟨k, hk⟩ s l (b, j) else 0

theorem state_values (𝒱 : Variants) (c : Dev nD) (bd : Option 𝒱.V) (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) (v68 : BitVec 32) (v78 : BitVec 32) (X_arg1 : BufTy.Contents (Elt Ideal) arg1.view.ty) (X_arg5 : BufTy.Contents (Elt Ideal) arg5.view.ty) (X_arg6 : BufTy.Contents (Elt Ideal) arg6.view.ty) (X_arg10 : BufTy.Contents (Elt Ideal) arg10.view.ty) (X_arg11 : BufTy.Contents (Elt Ideal) arg11.view.ty) (init : FVec Ideal S8x128 .f32 × FVec Ideal S8x128 .f32) (n : ℕ) (hn : n ≤ 8) :
    (∀ s l, (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1.1 (ix2 s l) = init.1 (ix2 s l) + ∑ k ∈ Finset.range n, tripSum (arg1.view.read (Elt Ideal) X_arg1) (arg10.view.read (Elt Ideal) X_arg10) (arg11.view.read (Elt Ideal) X_arg11) (arg5.view.read (Elt Ideal) X_arg5) 0 s l k)
    ∧ (∀ s l, (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1.2 (ix2 s l) = init.2 (ix2 s l) + ∑ k ∈ Finset.range n, tripSum (arg1.view.read (Elt Ideal) X_arg1) (arg10.view.read (Elt Ideal) X_arg10) (arg11.view.read (Elt Ideal) X_arg11) (arg5.view.read (Elt Ideal) X_arg5) 1 s l k)
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).2.1, ∀ x : p.1.shape.Idx, p.2 x = outDw (arg1.view.read (Elt Ideal) X_arg1) (arg10.view.read (Elt Ideal) X_arg10) (arg6.view.read (Elt Ideal) X_arg6) (p.1.emb x))
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).2.2, ∀ x : p.1.shape.Idx, p.2 x = outIdx (arg11.view.read (Elt Ideal) X_arg11) (p.1.emb x)) := by
  induction n with
  | zero =>
    refine ⟨fun s l => ?_, fun s l => ?_, fun p hp => absurd hp List.not_mem_nil, fun p hp => absurd hp List.not_mem_nil⟩ <;>
      rw [Finset.sum_range_zero, add_zero] <;> rfl
  | succ n ih =>
    obtain ⟨i1, i2, i3, i4⟩ := ih (by omega)
    have hk : n < k1_t1_loop.trips := by rw [trips_eq]; omega
    have e := st_k1_t1_succ (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init ⟨n, hk⟩
    rw [show n + 1 = (⟨n, hk⟩ : Fin k1_t1_loop.trips).val + 1 from rfl, e]
    refine ⟨fun s l => ?_, fun s l => ?_, fun p hp => ?_, fun p hp => ?_⟩
    · refine (congrFun (congrArg Prod.fst (trip_carry (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨n, hk⟩ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1)) (ix2 s l)).trans ?_
      refine (carry_apply _ _ _ _ _ _ _ s l).trans ?_
      show (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1.1 (ix2 s l) + _ = _
      rw [i1, Finset.sum_range_succ, add_assoc, tripSum, dif_pos (by omega : n < 8)]
    · refine (congrFun (congrArg Prod.snd (trip_carry (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨n, hk⟩ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1)) (ix2 s l)).trans ?_
      refine (carry_apply _ _ _ _ _ _ _ s l).trans ?_
      show (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1.2 (ix2 s l) + _ = _
      rw [i2, Finset.sum_range_succ, add_assoc, tripSum, dif_pos (by omega : n < 8)]
    · rcases List.mem_append.mp hp with hp | hp
      · exact trip_pieces_agree 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨n, hk⟩ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1 p hp
      · exact i3 p hp
    · rcases List.mem_append.mp hp with hp | hp
      · exact trip_indices_agree 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 ⟨n, hk⟩ (st_k1_t1 (F := Ideal) 𝒱 c bd i arg1 harg1 arg2 harg2 arg3 harg3 arg4 harg4 arg5 harg5 arg6 harg6 arg7 harg7 arg8 harg8 arg9 harg9 arg10 harg10 arg11 harg11 v68 v78 X_arg1 X_arg5 X_arg6 X_arg10 X_arg11 init n).1 p hp
      · exact i4 p hp

/-- A half's sum after all trips. -/
def halfSum (X : Vec Ideal S3584x1536 .bf16) (D : Vec Ideal S1536x256 .bf16) (C : Vec Ideal S448x256 .i32)
    (T : Vec Ideal S2x4x2x8x128 .i32) (h : Fin 2) (s : Fin 8) (l : Fin 128) : EReal :=
  ∑ k : Fin 8, ∑ b : Fin 7, ∑ j : Fin 8, termAt X D C T h k s l (b, j)

theorem sum_tripSum (X : Vec Ideal S3584x1536 .bf16) (D : Vec Ideal S1536x256 .bf16) (C : Vec Ideal S448x256 .i32)
    (T : Vec Ideal S2x4x2x8x128 .i32) (h : Fin 2) (s : Fin 8) (l : Fin 128) :
    ∑ k ∈ Finset.range 8, tripSum X D C T h s l k = halfSum X D C T h s l := by
  rw [Finset.sum_range]
  exact Finset.sum_congr rfl fun k _ => dif_pos k.isLt

/-- What the third output's block holds. -/
def outDs (X : Vec Ideal S3584x1536 .bf16) (D : Vec Ideal S1536x256 .bf16) (C : Vec Ideal S448x256 .i32)
    (T : Vec Ideal S2x4x2x8x128 .i32) : Vec Ideal S1x1x256 .f32 := fun y =>
  ∑ s : Fin 8, halfSum X D C T ⟨(y 2).val / 128, by have h : (y 2).val < 256 := (y 2).isLt; omega⟩ s
    ⟨(y 2).val % 128, Nat.mod_lt _ (by decide)⟩

theorem outDs_eq (X : Vec Ideal S3584x1536 .bf16) (D : Vec Ideal S1536x256 .bf16) (C : Vec Ideal S448x256 .i32)
    (T : Vec Ideal S2x4x2x8x128 .i32) (y : S1x1x256.Idx) (h : Fin 2) (l : Fin 128) (hy : (y 2).val = 128 * h.val + l.val) :
    outDs X D C T y = ∑ s : Fin 8, halfSum X D C T h s l := by
  have e1 : (⟨(y 2).val / 128, by have h : (y 2).val < 256 := (y 2).isLt; omega⟩ : Fin 2) = h := Fin.ext (by show (y 2).val / 128 = _; omega)
  have e2 : (⟨(y 2).val % 128, Nat.mod_lt _ (by decide)⟩ : Fin 128) = l := Fin.ext (by show (y 2).val % 128 = _; omega)
  unfold outDs
  rw [e1, e2]

/-! ### The scratch buffers -/

/-- The dequantised block: each value times the scale of its row and of its block of 128 columns, `g` being the first of the
    two blocks. -/
def dyOf (g : ℕ) (hg : g + 1 < 256) (x1 : Vec Ideal S1536x256 .fp8e5m2) (x2 : Vec Ideal S1536x256 .f32) : Vec Ideal S1536x256 .bf16 :=
  fun y => (x1 y : EReal) * (x2 (ix2 ⟨(y 0).val, (y 0).isLt⟩ ⟨g + (y 1).val / 128, by have h : (y 1).val < 256 := (y 1).isLt; omega⟩) : EReal)

theorem dyOf_eq (g : ℕ) (hg : g + 1 < 256) (x1 : Vec Ideal S1536x256 .fp8e5m2) (x2 : Vec Ideal S1536x256 .f32) (y : S1536x256.Idx)
    (t : Fin 1536) (c b : Fin 256) (ht : (y 0).val = t.val) (hc : (y 1).val = c.val) (hb : b.val = g + c.val / 128) :
    dyOf g hg x1 x2 y = (x1 (ix2 t c) : EReal) * (x2 (ix2 t b) : EReal) := by
  have e : y = ix2 t c := by
    rw [eq_ix2 y]
    exact congr (congrArg ix2 (Fin.ext ht)) (Fin.ext hc)
  subst e
  obtain ⟨b, hb'⟩ := b
  dsimp only at hb
  subst hb
  rfl

/-- The words of both codebooks' codes, codes in the rows. -/
def wordsOf (x3 : Vec Ideal S2x256x448 .i8) : Vec Ideal S448x256 .i32 := fun y =>
  IntOp.ori ((x3 (ix3 0 ⟨(y 1).val, (y 1).isLt⟩ ⟨(y 0).val, (y 0).isLt⟩) : BitVec 8).setWidth 32)
    (IntOp.shli .vector ((x3 (ix3 1 ⟨(y 1).val, (y 1).isLt⟩ ⟨(y 0).val, (y 0).isLt⟩) : BitVec 8).setWidth 32) 16#32)

/-- The body reads the scales of the blocks `g` and `g + 1`: each window's offset and the lane in it make the block. -/
abbrev ScaleAt.Reads (o : ScaleAt) (g : ℕ) : Prop :=
  (o.off0 0 = 0 ∧ o.off0 1 + o.lane0.toNat % 128 = g) ∧ o.off1 0 = 0 ∧ o.off1 1 + o.lane1.toNat % 128 = g + 1

theorem scratchDy (c : Dev nD) (o : ScaleAt) (g : ℕ) (hg : g + 1 < 256) (ho : o.Reads g) (arg2 : Memref sig .tc .vmem S1536x256 .fp8e5m2) (harg2 : arg2.IsWhole)
    (arg3 : Memref sig .tc .vmem S1536x256 .f32) (harg3 : arg3.IsWhole) (arg10 : Memref sig .tc .vmem S1536x256 .bf16)
    (x1 : Vec Ideal S1536x256 .fp8e5m2) (x2 : Vec Ideal S1536x256 .f32) :
    arg10.view.read (Elt Ideal) (arg10.view.writes (Elt Ideal) arg10.view.junk (tcRun.sl.HS0_2 (F := Ideal) c o arg2 harg2 arg3 harg3 x1 x2))
      = dyOf g hg x1 x2 := by
  funext y
  refine View.read_writes_apply_of_pieces _ _ _ _ (fun p hp x => ?_) y
    (View.cover_of_tiledL (tcRun.sl.HS0_2 (F := Ideal) c o arg2 harg2 arg3 harg3 x1 x2) S1536x128.size (by sl_kernel_rfl) y)
  unfold tcRun.sl.HS0_2 at hp
  simp only [View.readAt_eq_ld, harg2.read_unread, harg3.read_unread] at hp
  rcases List.mem_cons.mp hp with rfl | hp
  · revert x
    intro (x : S1536x128.Idx)
    obtain ⟨a, b, rfl⟩ : ∃ a b, x = ix2 a b := ⟨x 0, x 1, eq_ix2 x⟩
    pointwise [k1_pay783]
    refine Eq.trans ?_ (dyOf_eq _ _ x1 x2 _ a ⟨128 + b.val, by have := b.isLt; omega⟩ ⟨g + 1, hg⟩ ?_ ?_ ?_).symm
    · refine congrArg (fun z : EReal => (x1 (ix2 a ⟨128 + b.val, by have := b.isLt; omega⟩) : EReal) * z) (congrArg x2 (congr (congrArg ix2 (Fin.ext ?_)) (Fin.ext ?_)))
      · show o.off1 0 + a.val = a.val
        rw [ho.2.1]; exact Nat.zero_add _
      · exact ho.2.2
    · show 0 + 1 * a.val = a.val
      omega
    · show 128 + 1 * b.val = 128 + b.val
      omega
    · have := b.isLt
      show g + 1 = g + (128 + b.val) / 128
      omega
  · obtain rfl := List.mem_singleton.mp hp
    revert x
    intro (x : S1536x128.Idx)
    obtain ⟨a, b, rfl⟩ : ∃ a b, x = ix2 a b := ⟨x 0, x 1, eq_ix2 x⟩
    pointwise [k1_pay782, scaleBlk]
    refine Eq.trans ?_ (dyOf_eq _ _ x1 x2 _ a ⟨b.val, by have := b.isLt; omega⟩ ⟨g, by omega⟩ ?_ ?_ ?_).symm
    · refine congrArg (fun z : EReal => (x1 (ix2 a ⟨b.val, by have := b.isLt; omega⟩) : EReal) * z) (congrArg x2 (congr (congrArg ix2 (Fin.ext ?_)) (Fin.ext ?_)))
      · show o.off0 0 + a.val = a.val
        rw [ho.1.1]; exact Nat.zero_add _
      · exact ho.1.2
    · show 0 + 1 * a.val = a.val
      omega
    · show 0 + 1 * b.val = b.val
      omega
    · have := b.isLt
      show g = g + b.val / 128
      omega

theorem scratchWords (c : Dev nD) (arg4 : Memref sig .tc .vmem S2x256x448 .i8) (harg4 : arg4.IsWhole)
    (arg11 : Memref sig .tc .vmem S448x256 .i32) (x3 : Vec Ideal S2x256x448 .i8) :
    arg11.view.read (Elt Ideal) (arg11.view.writes (Elt Ideal) arg11.view.junk (tcRun.sl.HS1_1 (F := Ideal) c arg4 harg4 x3))
      = wordsOf x3 := by
  funext y
  refine View.read_writes_apply_of_pieces _ _ _ _ (fun p hp x => ?_) y
    (View.cover_of_tiledL (tcRun.sl.HS1_1 (F := Ideal) c arg4 harg4 x3) S448x256.size (by sl_kernel_rfl) y)
  unfold tcRun.sl.HS1_1 at hp
  simp only [View.readAt_eq_ld, harg4.read_unread] at hp
  obtain rfl := List.mem_singleton.mp hp
  revert x
  intro (x : S448x256.Idx)
  obtain ⟨a, b, rfl⟩ : ∃ a b, x = ix2 a b := ⟨x 0, x 1, eq_ix2 x⟩
  pointwise [k1_pay784]
  have e : (Rect.unit (s := S448x256) ![0, 0] ![448, 256] inb_S448x256_S448x256_0_0).emb (ix2 a b) = ix2 a b := by
    funext k
    fin_cases k
    · exact Fin.ext (by show 0 + 1 * a.val = a.val; omega)
    · exact Fin.ext (by show 0 + 1 * b.val = b.val; omega)
  exact (congrArg (wordsOf x3) e).symm

/-! ### The output blocks -/

theorem trips8 : Scf.trips (0#32) (Scalar.addi 0#32 8#32) 1#32 = 8 := by decide +kernel

theorem trips8' : Scf.trips k1_t1_loop.lb k1_t1_loop.ub k1_t1_loop.st = 8 := by decide +kernel

theorem init_apply (s : Fin 8) (l : Fin 128) : (k1_pay786 (F := Ideal) (ix2 s l) : EReal) = 0 := by
  pointwise [k1_pay786]

theorem out8_value (c : Dev nD) (o : ScaleAt) (g : ℕ) (hg : g + 1 < 256) (ho : o.Reads g) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole)
    (x0 : Vec Ideal S3584x1536 .bf16) (x1 : Vec Ideal S1536x256 .fp8e5m2) (x2 : Vec Ideal S1536x256 .f32) (x3 : Vec Ideal S2x256x448 .i8) (x4 : Vec Ideal S2x4x2x8x128 .i32) (x5 : Vec Ideal S1x1x256 .f32) :
    tcOut8 (F := Ideal) c o arg1 harg1 arg2 harg2 arg3 harg3 arg4 harg4 arg5 harg5 arg6 harg6 arg7 harg7 arg8 harg8 arg9 harg9 arg10 harg10 arg11 harg11 x0 x1 x2 x3 x4 x5 = outDs x0 (dyOf g hg x1 x2) (wordsOf x3) x4 := by
  funext y
  refine View.read_writes_apply_of_pieces VO8 _ _ _ (fun p hp x => ?_) y (tcCover8 (F := Ideal) c o arg1 harg1 arg2 harg2 arg3 harg3 arg4 harg4 arg5 harg5 arg6 harg6 arg7 harg7 arg8 harg8 arg9 harg9 arg10 harg10 arg11 harg11 x0 x1 x2 x3 x4 x5 y)
  unfold tcRun at hp
  dsimp only at hp
  have e := state_values Variants.none c none tcPoint arg1 harg1 arg2 harg2 arg3 harg3 arg4 harg4 arg5 harg5 arg6 harg6 arg7 harg7 arg8 harg8 arg9 harg9 arg10 harg10 arg11 harg11 0#32 0#32 (harg1.unread x0) (harg5.unread x4) (harg6.unread x5) (arg10.view.writes (Elt Ideal) arg10.view.junk (tcRun.sl.HS0_2 (F := Ideal) c o arg2 harg2 arg3 harg3 x1 x2)) (arg11.view.writes (Elt Ideal) arg11.view.junk (tcRun.sl.HS1_1 (F := Ideal) c arg4 harg4 x3)) (k1_pay786, k1_pay786) 8 (le_refl 8)
  rw [harg1.read_unread, harg5.read_unread, harg6.read_unread, scratchDy c o g hg ho, scratchWords] at e
  rcases List.mem_cons.mp hp with rfl | hp
  · revert x
    intro (x : S1x1x128.Idx)
    obtain ⟨a, b, l, rfl⟩ : ∃ a b l, x = ix3 a b l := ⟨x 0, x 1, x 2, eq_ix3 x⟩
    refine Eq.trans ?_ (outDs_eq _ _ _ _ _ 1 l (by show 128 + 1 * l.val = 128 * 1 + l.val; omega)).symm
    unfold tcRun.sl.r_1
    rw [trips8']
    pointwise [k1_pay2]
    refine Finset.sum_congr rfl fun s _ => ?_
    refine (e.2.1 s l).trans ?_
    rw [sum_tripSum]
    exact (congrArg (· + _) (init_apply s l)).trans (zero_add _)
  · obtain rfl := List.mem_singleton.mp hp
    revert x
    intro (x : S1x1x128.Idx)
    obtain ⟨a, b, l, rfl⟩ : ∃ a b l, x = ix3 a b l := ⟨x 0, x 1, x 2, eq_ix3 x⟩
    refine Eq.trans ?_ (outDs_eq _ _ _ _ _ 0 l (by show 0 + 1 * l.val = 128 * 0 + l.val; omega)).symm
    unfold tcRun.sl.r
    rw [trips8']
    pointwise [k1_pay1]
    refine Finset.sum_congr rfl fun s _ => ?_
    refine (e.1 s l).trans ?_
    rw [sum_tripSum]
    exact (congrArg (· + _) (init_apply s l)).trans (zero_add _)

end Cert.KernelIdeal.Gen
-- ==== Proof.KernelArrays.lean ====
/- What a block of the matrix-product calls computes of the row-scale gradient, from the whole arrays its blocks are cut
   from, over the extended reals: one statement for every call and grid point. -/
module

public import proofs.«01_k».proof.Proof.BlockValue
public import Idealize.ShloMosaic.Lib.Pipeline.ValueKit

@[expose] public section

set_option maxRecDepth 100000
set_option maxHeartbeats 400000

noncomputable section

namespace Cert.KernelIdeal.Gen

open Idealize.ShloMosaic Idealize.ShloMosaic.TcCoe Idealize.ShloMosaic.Tactic
open Idealize.SL

/-- An entry of the product over whole arrays: row `r` of the transposed input with column `o` of the dequantised gradient. -/
def gradK (X : Vec Ideal S3584x1536 .bf16) (Y : Vec Ideal S1536x18944 .fp8e5m2) (S : Vec Ideal S1536x256 .f32)
    (r : Fin 3584) (o : Fin 18944) : EReal :=
  ∑ t : Fin 1536, (X (ix2 r t) : EReal) * ((Y (ix2 t o) : EReal) * (S (ix2 t ⟨o.val / 128, by omega⟩) : EReal))

/-- The word of both codebooks' codes of group `g` and output `o`. -/
def wordK (C : Vec Ideal S2x18944x448 .i8) (g : Fin 448) (o : Fin 18944) : BitVec 32 :=
  IntOp.ori ((C (ix3 0 o g) : BitVec 8).setWidth 32) (IntOp.shli .vector ((C (ix3 1 o g) : BitVec 8).setWidth 32) 16#32)

/-- One term of the row-scale gradient over whole arrays. -/
def termK (X : Vec Ideal S3584x1536 .bf16) (Y : Vec Ideal S1536x18944 .fp8e5m2) (S : Vec Ideal S1536x256 .f32)
    (C : Vec Ideal S2x18944x448 .i8) (T : Vec Ideal S2x4x2x8x128 .i32) (o : Fin 18944) (s k : Fin 8) (b : Fin 7) (j : Fin 8) : EReal :=
  gradK X Y S ⟨448 * k.val + (64 * b.val + 8 * j.val + s.val), by omega⟩ o
    * (compW T 0 j s (wordK C ⟨56 * k.val + 8 * b.val + s.val, by omega⟩ o)
      + compW T 1 j s (wordK C ⟨56 * k.val + 8 * b.val + s.val, by omega⟩ o))

/-- The row-scale gradient of row `o` over whole arrays (a row outside the matrix has none). -/
def dsAt (X : Vec Ideal S3584x1536 .bf16) (Y : Vec Ideal S1536x18944 .fp8e5m2) (S : Vec Ideal S1536x256 .f32)
    (C : Vec Ideal S2x18944x448 .i8) (T : Vec Ideal S2x4x2x8x128 .i32) (o : ℕ) : EReal :=
  if h : o < 18944 then ∑ s : Fin 8, ∑ k : Fin 8, ∑ b : Fin 7, ∑ j : Fin 8, termK X Y S C T ⟨o, h⟩ s k b j else 0

/-- The blocks a grid point finds are those of the rows `256 n` to `256 n + 255` of the whole arrays. -/
structure BlocksAt (n : ℕ) (x0 X : Vec Ideal S3584x1536 .bf16) (x1 : Vec Ideal S1536x256 .fp8e5m2) (Y : Vec Ideal S1536x18944 .fp8e5m2)
    (x2 S : Vec Ideal S1536x256 .f32) (x3 : Vec Ideal S2x256x448 .i8) (C : Vec Ideal S2x18944x448 .i8)
    (x4 T : Vec Ideal S2x4x2x8x128 .i32) : Prop where
  lt : n < 74
  hX : x0 = X
  hY : ∀ (u : Fin 1536) (q : Fin 256), x1 (ix2 u q) = Y (ix2 u ⟨256 * n + q.val, by omega⟩)
  hS : x2 = S
  hC : ∀ (m : Fin 2) (q : Fin 256) (g : Fin 448), x3 (ix3 m q g) = C (ix3 m ⟨256 * n + q.val, by omega⟩ g)
  hT : x4 = T

namespace BlocksAt

variable {n : ℕ} {x0 X : Vec Ideal S3584x1536 .bf16} {x1 : Vec Ideal S1536x256 .fp8e5m2} {Y : Vec Ideal S1536x18944 .fp8e5m2}
  {x2 S : Vec Ideal S1536x256 .f32} {x3 : Vec Ideal S2x256x448 .i8} {C : Vec Ideal S2x18944x448 .i8}
  {x4 T : Vec Ideal S2x4x2x8x128 .i32}

theorem dw (h : BlocksAt n x0 X x1 Y x2 S x3 C x4 T) (hn : 2 * n + 1 < 256) (r : Fin 3584) (q : Fin 256) (o : Fin 18944)
    (ho : o.val = 256 * n + q.val) : dwAt x0 (dyOf (2 * n) hn x1 x2) r q = gradK X Y S r o := by
  obtain ⟨lt, rfl, hY, rfl, hC, rfl⟩ := h
  unfold dwAt gradK
  refine Finset.sum_congr rfl fun u _ => ?_
  rw [dyOf_eq _ _ _ _ _ u q ⟨o.val / 128, by have := o.isLt; omega⟩ rfl rfl (by show o.val / 128 = _; omega), hY]
  obtain ⟨o, ho'⟩ := o
  dsimp only at ho
  subst ho
  rfl

theorem words (h : BlocksAt n x0 X x1 Y x2 S x3 C x4 T) (g : Fin 448) (q : Fin 256) (o : Fin 18944)
    (ho : o.val = 256 * n + q.val) : wordsOf x3 (ix2 g q) = wordK C g o := by
  obtain ⟨o, ho'⟩ := o
  dsimp only at ho
  subst ho
  unfold wordK
  rw [← h.hC, ← h.hC]
  rfl

/-- The block of the row-scale gradient a grid point computes. -/
theorem ds (h : BlocksAt n x0 X x1 Y x2 S x3 C x4 T) (hn : 2 * n + 1 < 256) (y : S1x1x256.Idx) :
    outDs x0 (dyOf (2 * n) hn x1 x2) (wordsOf x3) x4 y = dsAt X Y S C T (256 * n + (y 2).val) := by
  have hq : (y 2).val < 256 := (y 2).isLt
  have hlt := h.lt
  rw [outDs_eq _ _ _ _ _ ⟨(y 2).val / 128, by omega⟩ ⟨(y 2).val % 128, by omega⟩ (by show (y 2).val = 128 * ((y 2).val / 128) + (y 2).val % 128; omega)]
  unfold dsAt
  rw [dif_pos (by omega)]
  unfold halfSum termAt
  refine Finset.sum_congr rfl fun s _ => Finset.sum_congr rfl fun k _ => Finset.sum_congr rfl fun b' _ => Finset.sum_congr rfl fun j _ => ?_
  dsimp only
  rw [h.dw hn _ _ ⟨256 * n + (y 2).val, by omega⟩ (by show _ = _ + (128 * ((y 2).val / 128) + (y 2).val % 128); dsimp only; omega),
    h.words _ _ ⟨256 * n + (y 2).val, by omega⟩ (by show _ = _ + (128 * ((y 2).val / 128) + (y 2).val % 128); dsimp only; omega), h.hT]
  rfl

end BlocksAt

end Cert.KernelIdeal.Gen
-- ==== Proof.TcRegions.lean ====
/- The calls of the `KernelIdeal` program as regions: the transposition of the activations (region 0); the
   matrix-product calls follow in the modules `TcCalls…`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcRun
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_xt` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1536x256 := Rect.unit (s := S1536x256) ![0, 0] S1536x256.size inb_S1536x256_S1536x256_0_0
abbrev r0_1 : Rect S256x1536 := Rect.unit (s := S256x1536) ![0, 0] S256x1536.size inb_S256x1536_S256x1536_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S1536x256 .bf16) : Vec F S256x1536 .bf16 :=
  View.canon [⟨r0_1, k0_pay1 (View.ld x0 r0_0)⟩]

/-- Its stores tile the buffer (checked by evaluation), so they cover it. -/
theorem cover0_1 (p0 : Vec F S256x1536 .bf16) (y : S256x1536.Idx) :
    ∃ pc ∈ ([⟨r0_1, p0⟩] : List (View.Piece (Elt F) S256x1536 .bf16)), y ∈ pc.1.set :=
  View.cover_of_tiled [⟨r0_1, p0⟩] S256x1536.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1536x256 .bf16) (harg1 : arg1.IsWhole) (arg2 : Memref sig .tc .vmem S256x1536 .bf16) (harg2 : arg2.IsWhole)
    (x0 : Vec F S1536x256 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_xt i arg1 harg1 arg2 harg2) K := by
  simp only [cc0_xt_eq_skeleton]; unfold cc0_xt_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The separating conjunction associates. -/
theorem sepAssoc (P Q R : sProp 𝕄) : iprop((P ∗ Q) ∗ R) = iprop(P ∗ Q ∗ R) := equiv_iff.mp ⟨BI.sep_assoc, BI.sep_assoc'⟩

end Regions

end Cert.KernelIdeal.Gen

end
-- ==== Proof.XtValue.lean ====
/- The transposing call's array after its run, over the extended reals: a permutation of the rows of the transpose. -/
module

public import proofs.«01_k».proof.Proof.TcRegions
public import Idealize.ShloMosaic.Lib.Pipeline.ValueKit
public import Idealize.ShloMosaic.Lib.Pointwise

@[expose] public section

set_option maxRecDepth 100000
set_option maxHeartbeats 400000

noncomputable section

namespace Cert.KernelIdeal.Gen

open Idealize.ShloMosaic Idealize.ShloMosaic.TcCoe Idealize.ShloMosaic.Tactic
open Idealize.SL

/-- The row's place in its block of 256, as the kernel computes it. -/
def srcWord (r : Fin 256) : BitVec 32 :=
  IntOp.ori (IntOp.ori (IntOp.andi (BitVec.ofNat 32 r.val) 4294967232#32) (IntOp.shli .vector (IntOp.andi (BitVec.ofNat 32 r.val) 7#32) 3#32))
    (IntOp.andi (IntOp.shrsi .vector (BitVec.ofNat 32 r.val) 3#32) 7#32)

theorem srcWord_eq : ∀ r : Fin 256, srcWord r = BitVec.ofNat 32 (64 * (r.val / 64) + 8 * (r.val % 8) + r.val / 8 % 8) := by
  decide +kernel

theorem cmpi_self (a : BitVec 32) : IntOp.cmpi .eq a a = 1#1 := by
  simp [IntOp.cmpi]

theorem cmpi_ne {a b : BitVec 32} (h : a ≠ b) : IntOp.cmpi .eq a b = 0#1 := by
  show BitVec.ofBool (a == b) = 0#1
  rw [beq_eq_false_iff_ne.mpr h]
  rfl

theorem xt_payload (x : Vec Ideal S1536x256 .bf16) (r : Fin 256) (t : Fin 1536) (c : Fin 256)
    (hc : c.val = 64 * (r.val / 64) + 8 * (r.val % 8) + r.val / 8 % 8) :
    (k0_pay1 (F := Ideal) x (ix2 r t) : EReal) = x (ix2 t c) := by
  pointwise [k0_pay1]
  refine (Finset.sum_eq_single c (fun k _ hk => ?_) fun h => absurd (Finset.mem_univ _) h).trans ?_
  · have e : IntOp.cmpi .eq (BitVec.ofNat 32 k.val) (srcWord r) = 0#1 := by
      have hne : BitVec.ofNat 32 k.val ≠ srcWord r := by
        rw [srcWord_eq, ← hc]
        intro h
        have h' := congrArg BitVec.toNat h
        simp only [BitVec.toNat_ofNat] at h'
        exact hk (Fin.ext (by omega))
      exact cmpi_ne hne
    exact (congrArg (fun w => Scalar.select w (x (ix2 t k) : EReal) 0) e).trans (by rfl)
  · have e : IntOp.cmpi .eq (BitVec.ofNat 32 c.val) (srcWord r) = 1#1 := by
      rw [srcWord_eq, ← hc]
      exact cmpi_self _
    exact (congrArg (fun w => Scalar.select w (x (ix2 t c) : EReal) 0) e).trans (by rfl)

variable (V : (c : Dev nD) → (b : Ref sig .tc) → Buf (Elt Ideal) ((c : Thread nD τ).loc b))

theorem idx0 : ∀ t : Fin grid0.N, win0_0.index t = ![0, (grid0.coords t 0).val] ∧ win0_1.index t = ![(grid0.coords t 0).val, 0] := by
  decide +kernel

/-- Where row `r` of the permuted transpose comes from. -/
def srcRow (r : Fin 3584) : Fin 3584 := ⟨64 * (r.val / 64) + 8 * (r.val % 8) + r.val / 8 % 8, by omega⟩

theorem xt_array (c : Dev nD) :
    (dat0 (F := Ideal) V c).arrAt 1 cfg0.N
      = (fun y => V c main_v0 (ix2 (y 1) (srcRow (y 0)))) := by
  refine (dat0 (F := Ideal) V c).arrAt_eq_of_covers 1 _ (by decide +kernel) fun t hf y => ?_
  blk_simp
  rw [after0_1]
  frame_out
  revert y
  intro (y : S256x1536.Idx)
  obtain ⟨r, s, rfl⟩ : ∃ r s, y = ix2 r s := ⟨y 0, y 1, eq_ix2 y⟩
  refine (xt_payload _ r s ⟨64 * (r.val / 64) + 8 * (r.val % 8) + r.val / 8 % 8, by have := r.isLt; omega⟩ rfl).trans ?_
  unfold srcRow
  blk_ext [iblk0, (idx0 t).1, (idx0 t).2]

end Cert.KernelIdeal.Gen
-- ==== Proof.Spec.lean ====
/- The mathematics of the problem, element by element, over the extended reals: the gradient of the weights, the
   decoded entries of the codebooks, and the gradient of the row scales. The codebooks come as 32-bit words, a word
   holding two neighbouring components of an entry. -/
module

public import Idealize.ShloMosaic.Lib.Pipeline.ValueKit
public import Idealize.ShloMosaic.Lib.Pointwise

@[expose] public section

noncomputable section

namespace Cert.Spec

open Idealize.ShloMosaic

/-- The gradient of the weight of output row `o` at column `i`: the sum over the tokens of the scaled incoming gradient
    times the activation. -/
def grad (x : Fin 12 → Fin 128 → Fin 3584 → EReal) (dy : Fin 12 → Fin 128 → Fin 18944 → EReal)
    (sc : Fin 12 → Fin 128 → Fin 148 → EReal) (o : Fin 18944) (i : Fin 3584) : EReal :=
  ∑ b, ∑ t, dy b t o * sc b t ⟨o.val / 128, by omega⟩ * x b t i

/-- Component `j` of entry `e` of codebook `m`: the low half of its word for an even component and the high half for an
    odd one, read as the upper bits of a float. -/
def entry (words : Fin 2 → Fin 256 → Fin 4 → BitVec 32) (m : Fin 2) (e : Fin 256) (j : Fin 8) : EReal :=
  Ideal.ofBits .f32 (if j.val % 2 = 0 then IntOp.shli .vector (words m e ⟨j.val / 2, by omega⟩) 16#32
    else IntOp.andi (words m e ⟨j.val / 2, by omega⟩) 4294901760#32)

/-- The decoded weight, unscaled, of output row `o`, group `g`, component `j`: the sum of the two entries the codes
    select. -/
def dec (words : Fin 2 → Fin 256 → Fin 4 → BitVec 32) (codes : Fin 2 → Fin 18944 → Fin 448 → BitVec 8)
    (o : Fin 18944) (g : Fin 448) (j : Fin 8) : EReal :=
  entry words 0 (codes 0 o g).toFin j + entry words 1 (codes 1 o g).toFin j

/-- The gradient of the scale of output row `o`. -/
def scaleGrad (x : Fin 12 → Fin 128 → Fin 3584 → EReal) (dy : Fin 12 → Fin 128 → Fin 18944 → EReal)
    (sc : Fin 12 → Fin 128 → Fin 148 → EReal) (words : Fin 2 → Fin 256 → Fin 4 → BitVec 32)
    (codes : Fin 2 → Fin 18944 → Fin 448 → BitVec 8) (o : Fin 18944) : EReal :=
  ∑ g : Fin 448, ∑ j : Fin 8, grad x dy sc o ⟨8 * g.val + j.val, by omega⟩ * dec words codes o g j

end Cert.Spec

end
-- ==== Proof.Bridge.lean ====
/- The kernel's arrays, as functions of the arrays its calls read, against the mathematics of the problem: the sum over
   the 1536 tokens is the sum over the batches of the sum over the positions, the rows of the permuted transpose are the
   columns of the activations, and the word of two codes gives each code back. -/
module

public import proofs.«01_k».proof.Proof.KernelArrays
public import proofs.«01_k».proof.Proof.XtValue
public import proofs.«01_k».proof.Proof.Spec

@[expose] public section

set_option maxRecDepth 100000
set_option maxHeartbeats 400000

noncomputable section

namespace Cert.KernelIdeal.Gen

open Idealize.ShloMosaic Idealize.ShloMosaic.TcCoe Idealize.ShloMosaic.Tactic
open Idealize.SL

/-- A sum over the tokens is the sum over the batches of the sum over the positions. -/
theorem sum_tokens (f : Fin 1536 → EReal) :
    ∑ t, f t = ∑ b : Fin 12, ∑ s : Fin 128, f ⟨128 * b.val + s.val, by omega⟩ := by
  rw [← Finset.sum_product', Finset.univ_product_univ]
  refine Finset.sum_bij' (fun (t : Fin 1536) _ => ((⟨t.val / 128, by omega⟩, ⟨t.val % 128, by omega⟩) : Fin 12 × Fin 128))
    (fun p _ => ⟨128 * p.1.val + p.2.val, by omega⟩) (fun _ _ => Finset.mem_univ _) (fun _ _ => Finset.mem_univ _) ?_ ?_ ?_
  · intro t _; exact Fin.ext (by dsimp only; omega)
  · rintro ⟨a, b⟩ _; exact Prod.ext (Fin.ext (by dsimp only; omega)) (Fin.ext (by dsimp only; omega))
  · intro t _; exact congrArg f (Fin.ext (by dsimp only; omega))

/-- A sum over the blocks of the reduction, sublanes and group tiles is a sum over the groups. -/
theorem sum_groups (f : Fin 448 → EReal) :
    ∑ s : Fin 8, ∑ k : Fin 8, ∑ b : Fin 7, f ⟨56 * k.val + 8 * b.val + s.val, by omega⟩ = ∑ g, f g := by
  rw [← Finset.sum_product', Finset.univ_product_univ]
  rw [← Finset.sum_product', Finset.univ_product_univ]
  refine Finset.sum_bij' (fun (p : (Fin 8 × Fin 8) × Fin 7) _ => (⟨56 * p.1.2.val + 8 * p.2.val + p.1.1.val, by omega⟩ : Fin 448))
    (fun g _ => ((⟨g.val % 8, by omega⟩, ⟨g.val / 56, by omega⟩), ⟨g.val / 8 % 7, by omega⟩))
    (fun _ _ => Finset.mem_univ _) (fun _ _ => Finset.mem_univ _) ?_ ?_ ?_
  · rintro ⟨⟨s, k⟩, b⟩ _
    exact Prod.ext (Prod.ext (Fin.ext (by dsimp only; omega)) (Fin.ext (by dsimp only; omega))) (Fin.ext (by dsimp only; omega))
  · intro g _; exact Fin.ext (by dsimp only; omega)
  · intro _ _; rfl

/-- Words of disjoint halves, as numbers. -/
theorem or_halves {i a b : ℕ} (h : b < 2 ^ i) : b ||| 2 ^ i * a = b + 2 ^ i * a := by
  rw [Nat.or_comm, ← Nat.two_pow_add_eq_or_of_lt h, Nat.add_comm]

/-- The word of two codes, as a number. -/
theorem word_toNat (a b : BitVec 8) :
    (IntOp.ori (BitVec.setWidth 32 a) (IntOp.shli .vector (BitVec.setWidth 32 b) 16#32)).toNat = a.toNat + 2 ^ 16 * b.toNat := by
  have ha := a.isLt
  have hb := b.isLt
  have e : (IntOp.shli .vector (BitVec.setWidth 32 b) 16#32).toNat = 2 ^ 16 * b.toNat := by
    revert b; decide +kernel
  show (BitVec.setWidth 32 a ||| _).toNat = _
  rw [BitVec.toNat_or, e, BitVec.toNat_setWidth, Nat.mod_eq_of_lt (by omega)]
  exact or_halves (by omega)

/-- The two codes of a word. -/
theorem codeW_low (a b : BitVec 8) :
    codeW 0 (IntOp.ori (BitVec.setWidth 32 a) (IntOp.shli .vector (BitVec.setWidth 32 b) 16#32)) = BitVec.setWidth 32 a := by
  have ha := a.isLt
  have hb := b.isLt
  have hw := word_toNat a b
  generalize IntOp.ori (BitVec.setWidth 32 a) (IntOp.shli .vector (BitVec.setWidth 32 b) 16#32) = w at hw ⊢
  have e : IntOp.shrsi .vector w 0#32 = w := by
    show BitVec.sshiftRight w 0 = w
    exact BitVec.sshiftRight_zero
  unfold codeW
  rw [e]
  refine BitVec.eq_of_toNat_eq ?_
  show (w &&& 255#32).toNat = _
  rw [BitVec.toNat_and, hw, BitVec.toNat_setWidth]
  show (_ &&& 2 ^ 8 - 1) = _
  rw [Nat.and_two_pow_sub_one_eq_mod]
  omega

theorem codeW_high (a b : BitVec 8) :
    codeW 1 (IntOp.ori (BitVec.setWidth 32 a) (IntOp.shli .vector (BitVec.setWidth 32 b) 16#32)) = BitVec.setWidth 32 b := by
  have ha := a.isLt
  have hb := b.isLt
  have hw := word_toNat a b
  generalize IntOp.ori (BitVec.setWidth 32 a) (IntOp.shli .vector (BitVec.setWidth 32 b) 16#32) = w at hw ⊢
  have e : IntOp.shrsi .vector w 16#32 = w >>> 16 := by
    show BitVec.sshiftRight w 16 = w >>> 16
    exact BitVec.sshiftRight_eq_of_msb_false (BitVec.msb_eq_false_iff_two_mul_lt.mpr (by omega))
  unfold codeW
  rw [e]
  refine BitVec.eq_of_toNat_eq ?_
  show (w >>> 16 &&& 255#32).toNat = _
  rw [BitVec.toNat_and, BitVec.toNat_ushiftRight, hw, BitVec.toNat_setWidth, Nat.shiftRight_eq_div_pow]
  show (_ &&& 2 ^ 8 - 1) = _
  rw [Nat.and_two_pow_sub_one_eq_mod]
  omega

/-- A code picks the upper or the lower table by its high bit and a lane by the rest. -/
theorem code_upper (a : BitVec 8) : IntOp.cmpi .sge (BitVec.setWidth 32 a) 128#32 = 1#1 ↔ 128 ≤ a.toNat := by
  revert a; decide +kernel

theorem code_lane (a : BitVec 8) : (IntOp.andi (BitVec.setWidth 32 a) 127#32).toNat % 128 = a.toNat % 128 := by
  revert a; decide +kernel

/-- The arrays the matrix-product calls read, as the arguments give them. -/
structure Reads (x : Fin 12 → Fin 128 → Fin 3584 → EReal) (dy : Fin 12 → Fin 128 → Fin 18944 → EReal)
    (sc : Fin 12 → Fin 128 → Fin 148 → EReal) (words : Fin 2 → Fin 256 → Fin 4 → BitVec 32)
    (codes : Fin 2 → Fin 18944 → Fin 448 → BitVec 8)
    (X : Vec Ideal S3584x1536 .bf16) (Y : Vec Ideal S1536x18944 .fp8e5m2) (S : Vec Ideal S1536x256 .f32)
    (C : Vec Ideal S2x18944x448 .i8) (T : Vec Ideal S2x4x2x8x128 .i32) : Prop where
  hX : ∀ (r : Fin 3584) (b : Fin 12) (s : Fin 128), X (ix2 r ⟨128 * b.val + s.val, by omega⟩) = x b s (srcRow r)
  hY : ∀ (b : Fin 12) (s : Fin 128) (o : Fin 18944), Y (ix2 ⟨128 * b.val + s.val, by omega⟩ o) = dy b s o
  hS : ∀ (b : Fin 12) (s : Fin 128) (k : Fin 148), S (ix2 ⟨128 * b.val + s.val, by omega⟩ ⟨k.val, by omega⟩) = sc b s k
  hC : ∀ m o g, C (ix3 m o g) = codes m o g
  hT : ∀ (m : Fin 2) (p : Fin 4) (u : Fin 2) (s : Fin 8) (l : Fin 128),
    T (ix5 m p u s l) = words m ⟨128 * u.val + l.val, by omega⟩ p

namespace Reads

variable {x : Fin 12 → Fin 128 → Fin 3584 → EReal} {dy : Fin 12 → Fin 128 → Fin 18944 → EReal}
  {sc : Fin 12 → Fin 128 → Fin 148 → EReal} {words : Fin 2 → Fin 256 → Fin 4 → BitVec 32}
  {codes : Fin 2 → Fin 18944 → Fin 448 → BitVec 8}
  {X : Vec Ideal S3584x1536 .bf16} {Y : Vec Ideal S1536x18944 .fp8e5m2} {S : Vec Ideal S1536x256 .f32}
  {C : Vec Ideal S2x18944x448 .i8} {T : Vec Ideal S2x4x2x8x128 .i32}

theorem grad (h : Reads x dy sc words codes X Y S C T) (r : Fin 3584) (o : Fin 18944) :
    gradK X Y S r o = Spec.grad x dy sc o (srcRow r) := by
  unfold gradK Spec.grad
  rw [sum_tokens]
  refine Finset.sum_congr rfl fun b _ => Finset.sum_congr rfl fun s _ => ?_
  rw [h.hX, h.hY]
  refine (mul_comm _ _).trans (congrArg (fun z => dy b s o * z * x b s (srcRow r)) ?_)
  exact h.hS b s ⟨o.val / 128, by omega⟩

/-- The table word a word's code selects. -/
theorem entry (h : Reads x dy sc words codes X Y S C T) (m : Fin 2) (p : Fin 4) (s : Fin 8) (w : BitVec 32) (a : BitVec 8)
    (ha : codeW m w = BitVec.setWidth 32 a) : entryW T m p s w = words m a.toFin p := by
  unfold entryW Scalar.select
  have hl : (⟨(IntOp.andi (codeW m w) 127#32).toNat % 128, Nat.mod_lt _ (by decide)⟩ : Fin 128)
      = ⟨a.toNat % 128, Nat.mod_lt _ (by decide)⟩ := Fin.ext (by rw [ha]; exact code_lane a)
  rw [hl, h.hT, h.hT, ha]
  have hlt := a.isLt
  by_cases hu : 128 ≤ a.toNat
  · rw [(code_upper a).mpr hu]
    refine (if_pos rfl).trans (congrArg (fun e => words m e p) (Fin.ext ?_))
    show 128 * 1 + a.toNat % 128 = a.toNat
    omega
  · refine (if_neg (fun e => hu ((code_upper a).mp e))).trans ?_
    refine congrArg (fun e => words m e p) (Fin.ext ?_)
    show 128 * 0 + a.toNat % 128 = a.toNat
    omega

theorem comp0 (h : Reads x dy sc words codes X Y S C T) (j s : Fin 8) (g : Fin 448) (o : Fin 18944) :
    compW T 0 j s (wordK C g o) = Spec.entry words 0 (codes 0 o g).toFin j := by
  unfold compW Spec.entry halfW
  rw [h.entry 0 _ s (wordK C g o) (codes 0 o g) (by unfold wordK; rw [h.hC, h.hC]; exact codeW_low _ _)]

theorem comp1 (h : Reads x dy sc words codes X Y S C T) (j s : Fin 8) (g : Fin 448) (o : Fin 18944) :
    compW T 1 j s (wordK C g o) = Spec.entry words 1 (codes 1 o g).toFin j := by
  unfold compW Spec.entry halfW
  rw [h.entry 1 _ s (wordK C g o) (codes 1 o g) (by unfold wordK; rw [h.hC, h.hC]; exact codeW_high _ _)]

theorem term (h : Reads x dy sc words codes X Y S C T) (o : Fin 18944) (s k : Fin 8) (b : Fin 7) (j : Fin 8) :
    termK X Y S C T o s k b j
      = Spec.grad x dy sc o ⟨8 * (56 * k.val + 8 * b.val + s.val) + j.val, by omega⟩
        * Spec.dec words codes o ⟨56 * k.val + 8 * b.val + s.val, by omega⟩ j := by
  unfold termK Spec.dec
  rw [h.grad, h.comp0, h.comp1]
  refine congrArg (fun i => Spec.grad x dy sc o i * _) (Fin.ext ?_)
  unfold srcRow
  dsimp only
  omega

/-- What a call computes of one output row is the gradient of its scale. -/
theorem scaleGrad (h : Reads x dy sc words codes X Y S C T) (n : ℕ) (o : Fin 18944) (hn : n = o.val) :
    dsAt X Y S C T n = Spec.scaleGrad x dy sc words codes o := by
  subst hn
  unfold dsAt
  rw [dif_pos o.isLt]
  unfold Spec.scaleGrad
  rw [← sum_groups]
  refine Finset.sum_congr rfl fun s _ => Finset.sum_congr rfl fun k _ => Finset.sum_congr rfl fun b _ =>
    Finset.sum_congr rfl fun j _ => h.term o s k b j

end Reads

end Cert.KernelIdeal.Gen
-- ==== Proof.TcCalls1.lean ====
/- Two of the matrix-product calls as regions: their bodies are `tcBody` (`TcRun`) at where each reads its scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcRegions
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_tc0` (pipeline 1), at the entry contents `V` -/

/-- Where the call's body reads its scales at a grid point: its blocks begin at block 0. -/
def scaleAt1 (i : grid1.Coords) : ScaleAt :=
  ⟨k1_off1 i 0#32, k1_off1 i 1#32, k1_off1_inb i 0, k1_off1_inb i 1, laneOf (blockOf 0#32 (i 0).val 0#32), laneOf (blockOf 0#32 (i 0).val 1#32)⟩
/-- The call's body is the shared one there. -/
theorem body1_eq (i : grid1.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc1_tc0 (F := F) i arg1 harg1 arg2 harg2 arg3 harg3 arg4 harg4 arg5 harg5 arg6 harg6 arg7 harg7 arg8 harg8 arg9 harg9 arg10 harg10 arg11 harg11 = tcBody (scaleAt1 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S3584x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x256 .fp8e5m2 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256x448 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x4x2x8x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x56x8x8x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x56x8x128 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)
abbrev scM1_0 : Memref sig .tc .vmem S1536x256 .bf16 := Memref.whole cc1_scratch0
abbrev scM1_1 : Memref sig .tc .vmem S448x256 .i32 := Memref.whole cc1_scratch1

/-- The class's invariant with the call's two scratch buffers taken out of the scoped rest. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d))
          ∗ (Pipeline.scopedRestBut (Ix := Unit) (Name := ℕ) (U := UR sig nD τ) (Lvl := ℕ) (Val := Elt F) spec1 c [cc1_scratch0, cc1_scratch1] ∗ ∃ r, prngReg c r)) := by
  unfold Pipeline.ΦA
  rw [Pipeline.scopedRest_split_of_list spec1 c [cc1_scratch0, cc1_scratch1] (by decide) (by decide)]
  simp only [scM1_0, scM1_1, owns_whole]
  exact sepAssoc _ _ _

/-- What the outputs' staging buffers hold after the body at point `t` (in window order): the run's contents at the point's
    memrefs and input blocks. -/
def outsAt1 (c : Dev nD) (t : Fin cfg1.N) : Vec F S2x56x8x8x128 .f32 × Vec F S2x56x8x128 .i32 × Vec F S1x1x256 .f32 :=
  (tcOut6 c (scaleAt1 (grid1.coords t)) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t),
   tcOut7 c (scaleAt1 (grid1.coords t)) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t),
   tcOut8 c (scaleAt1 (grid1.coords t)) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t))

/-- The proof data of pipeline 1 on core `c`: the arrays as the region finds them (`V`); after the body each input's buffer at
    its block and the outputs' at `outsAt1`; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2.1
    | ⟨8, _⟩ => (outsAt1 V c t).2.2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2.1 := by dsimp only [dat1]
theorem after1_8 (c : Dev nD) (t : Fin cfg1.N) : (dat1 V c).after 8 t = (outsAt1 V c t).2.2 := by dsimp only [dat1]

/-- Each input's current staging buffer holds its block at every point, fetched there or not (the window uncut and never idle). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

set_option maxHeartbeats 800000 in
/-- The body at any point: `tc_sound` at the point's memrefs and blocks. -/
theorem sound_body1 (c : Dev nD) (t : Fin cfg1.N) :
    iprop((dat1 V c).Φ t.castSucc ∗ (dat1 V c).owesAt () t.castSucc ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)) ∗ (∃ d, owns (c : Thread nD τ) (ms1_4 t) fullShare ((dat1 V c).before 4 t d)) ∗ (∃ d, owns (c : Thread nD τ) (ms1_5 t) fullShare ((dat1 V c).before 5 t d)) ∗ (∃ d, owns (c : Thread nD τ) (ms1_6 t) fullShare ((dat1 V c).before 6 t d)) ∗ (∃ d, owns (c : Thread nD τ) (ms1_7 t) fullShare ((dat1 V c).before 7 t d)) ∗ (∃ d, owns (c : Thread nD τ) (ms1_8 t) fullShare ((dat1 V c).before 8 t d)))
    ⊢ wp frame (wpE (defs₀ (F := F)) Variants.none c none) Set.univ (bodyAt1 t) (fun _ =>
      iprop((dat1 V c).Φ t.succ ∗ (dat1 V c).owesAt () t.succ ∗ owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t) ∗ owns (c : Thread nD τ) (ms1_4 t) fullShare ((dat1 V c).after 4 t) ∗ owns (c : Thread nD τ) (ms1_5 t) fullShare ((dat1 V c).after 5 t) ∗ owns (c : Thread nD τ) (ms1_6 t) fullShare ((dat1 V c).after 6 t) ∗ owns (c : Thread nD τ) (ms1_7 t) fullShare ((dat1 V c).after 7 t) ∗ owns (c : Thread nD τ) (ms1_8 t) fullShare ((dat1 V c).after 8 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq, body1_eq]
  unfold outsAt1; dsimp only
  exact tc_sound c (scaleAt1 (grid1.coords t)) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t) _ _ _ _ _

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_tc10` (pipeline 2), at the entry contents `V` -/

/-- Where the call's body reads its scales at a grid point: its blocks begin at block 10. -/
def scaleAt2 (i : grid2.Coords) : ScaleAt :=
  ⟨k2_off1 i 0#32, k2_off1 i 1#32, k2_off1_inb i 0, k2_off1_inb i 1, laneOf (blockOf 10#32 (i 0).val 0#32), laneOf (blockOf 10#32 (i 0).val 1#32)⟩
/-- The call's body is the shared one there. -/
theorem body2_eq (i : grid2.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc2_tc10 (F := F) i arg1 harg1 arg2 harg2 arg3 harg3 arg4 harg4 arg5 harg5 arg6 harg6 arg7 harg7 arg8 harg8 arg9 harg9 arg10 harg10 arg11 harg11 = tcBody (scaleAt2 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S3584x1536 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1536x256 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1536x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x256x448 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x4x2x8x128 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2x56x8x8x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2x56x8x128 .i32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x1x256 .f32 := win2_8.stage (cfg2.slots t 8)
abbrev hs2_8 (t : Fin cfg2.N) : (ms2_8 t).IsWhole := hstage2_8 ((cfg2.slots t 8).cast nbuf2_8)
abbrev scM2_0 : Memref sig .tc .vmem S1536x256 .bf16 := Memref.whole cc2_scratch0
abbrev scM2_1 : Memref sig .tc .vmem S448x256 .i32 := Memref.whole cc2_scratch1

/-- The class's invariant with the call's two scratch buffers taken out of the scoped rest. -/
theorem PhiA2_eq (c : Dev nD) :
    (Pipeline.ΦA spec2 c : sProp 𝕄)
      = iprop(((∃ d, owns (c : Thread nD τ) scM2_0 fullShare d) ∗ (∃ d, owns (c : Thread nD τ) scM2_1 fullShare d))
          ∗ (Pipeline.scopedRestBut (Ix := Unit) (Name := ℕ) (U := UR sig nD τ) (Lvl := ℕ) (Val := Elt F) spec2 c [cc2_scratch0, cc2_scratch1] ∗ ∃ r, prngReg c r)) := by
  unfold Pipeline.ΦA
  rw [Pipeline.scopedRest_split_of_list spec2 c [cc2_scratch0, cc2_scratch1] (by decide) (by decide)]
  simp only [scM2_0, scM2_1, owns_whole]
  exact sepAssoc _ _ _

/-- What the outputs' staging buffers hold after the body at point `t` (in window order): the run's contents at the point's
    memrefs and input blocks. -/
def outsAt2 (c : Dev nD) (t : Fin cfg2.N) : Vec F S2x56x8x8x128 .f32 × Vec F S2x56x8x128 .i32 × Vec F S1x1x256 .f32 :=
  (tcOut6 c (scaleAt2 (grid2.coords t)) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t),
   tcOut7 c (scaleAt2 (grid2.coords t)) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t),
   tcOut8 c (scaleAt2 (grid2.coords t)) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t))

/-- The proof data of pipeline 2 on core `c`: the arrays as the region finds them (`V`); after the body each input's buffer at
    its block and the outputs' at `outsAt2`; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t).1
    | ⟨7, _⟩ => (outsAt2 V c t).2.1
    | ⟨8, _⟩ => (outsAt2 V c t).2.2
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t).1 := by dsimp only [dat2]
theorem after2_7 (c : Dev nD) (t : Fin cfg2.N) : (dat2 V c).after 7 t = (outsAt2 V c t).2.1 := by dsimp only [dat2]
theorem after2_8 (c : Dev nD) (t : Fin cfg2.N) : (dat2 V c).after 8 t = (outsAt2 V c t).2.2 := by dsimp only [dat2]

/-- Each input's current staging buffer holds its block at every point, fetched there or not (the window uncut and never idle). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

set_option maxHeartbeats 800000 in
/-- The body at any point: `tc_sound` at the point's memrefs and blocks. -/
theorem sound_body2 (c : Dev nD) (t : Fin cfg2.N) :
    iprop((dat2 V c).Φ t.castSucc ∗ (dat2 V c).owesAt () t.castSucc ∗ (∃ d, owns (c : Thread nD τ) (ms2_0 t) fullShare ((dat2 V c).before 0 t d)) ∗ (∃ d, owns (c : Thread nD τ) (ms2_1 t) fullShare ((dat2 V c).before 1 t d)) ∗ (∃ d, owns (c : Thread nD τ) (ms2_2 t) fullShare ((dat2 V c).before 2 t d)) ∗ (∃ d, owns (c : Thread nD τ) (ms2_3 t) fullShare ((dat2 V c).before 3 t d)) ∗ (∃ d, owns (c : Thread nD τ) (ms2_4 t) fullShare ((dat2 V c).before 4 t d)) ∗ (∃ d, owns (c : Thread nD τ) (ms2_5 t) fullShare ((dat2 V c).before 5 t d)) ∗ (∃ d, owns (c : Thread nD τ) (ms2_6 t) fullShare ((dat2 V c).before 6 t d)) ∗ (∃ d, owns (c : Thread nD τ) (ms2_7 t) fullShare ((dat2 V c).before 7 t d)) ∗ (∃ d, owns (c : Thread nD τ) (ms2_8 t) fullShare ((dat2 V c).before 8 t d)))
    ⊢ wp frame (wpE (defs₀ (F := F)) Variants.none c none) Set.univ (bodyAt2 t) (fun _ =>
      iprop((dat2 V c).Φ t.succ ∗ (dat2 V c).owesAt () t.succ ∗ owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t) ∗ owns (c : Thread nD τ) (ms2_4 t) fullShare ((dat2 V c).after 4 t) ∗ owns (c : Thread nD τ) (ms2_5 t) fullShare ((dat2 V c).after 5 t) ∗ owns (c : Thread nD τ) (ms2_6 t) fullShare ((dat2 V c).after 6 t) ∗ owns (c : Thread nD τ) (ms2_7 t) fullShare ((dat2 V c).after 7 t) ∗ owns (c : Thread nD τ) (ms2_8 t) fullShare ((dat2 V c).after 8 t))) := by
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  rw [show (dat2 V c).Φ t.castSucc = Pipeline.ΦA spec2 c from rfl, PhiA2_eq, body2_eq]
  unfold outsAt2; dsimp only
  exact tc_sound c (scaleAt2 (grid2.coords t)) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) _ _ _ _ _

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.TcCalls2.lean ====
/- Two of the matrix-product calls as regions: their bodies are `tcBody` (`TcRun`) at where each reads its scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcRegions
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_tc20` (pipeline 3), at the entry contents `V` -/

/-- Where the call's body reads its scales at a grid point: its blocks begin at block 20. -/
def scaleAt3 (i : grid3.Coords) : ScaleAt :=
  ⟨k3_off1 i 0#32, k3_off1 i 1#32, k3_off1_inb i 0, k3_off1_inb i 1, laneOf (blockOf 20#32 (i 0).val 0#32), laneOf (blockOf 20#32 (i 0).val 1#32)⟩
/-- The call's body is the shared one there. -/
theorem body3_eq (i : grid3.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc3_tc20 (F := F) i arg1 harg1 arg2 harg2 arg3 harg3 arg4 harg4 arg5 harg5 arg6 harg6 arg7 harg7 arg8 harg8 arg9 harg9 arg10 harg10 arg11 harg11 = tcBody (scaleAt3 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S3584x1536 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1536x256 .fp8e5m2 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1536x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2x256x448 .i8 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2x4x2x8x128 .i32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x256 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2x56x8x8x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S2x56x8x128 .i32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x1x256 .f32 := win3_8.stage (cfg3.slots t 8)
abbrev hs3_8 (t : Fin cfg3.N) : (ms3_8 t).IsWhole := hstage3_8 ((cfg3.slots t 8).cast nbuf3_8)
abbrev scM3_0 : Memref sig .tc .vmem S1536x256 .bf16 := Memref.whole cc3_scratch0
abbrev scM3_1 : Memref sig .tc .vmem S448x256 .i32 := Memref.whole cc3_scratch1

/-- The class's invariant with the call's two scratch buffers taken out of the scoped rest. -/
theorem PhiA3_eq (c : Dev nD) :
    (Pipeline.ΦA spec3 c : sProp 𝕄)
      = iprop(((∃ d, owns (c : Thread nD τ) scM3_0 fullShare d) ∗ (∃ d, owns (c : Thread nD τ) scM3_1 fullShare d))
          ∗ (Pipeline.scopedRestBut (Ix := Unit) (Name := ℕ) (U := UR sig nD τ) (Lvl := ℕ) (Val := Elt F) spec3 c [cc3_scratch0, cc3_scratch1] ∗ ∃ r, prngReg c r)) := by
  unfold Pipeline.ΦA
  rw [Pipeline.scopedRest_split_of_list spec3 c [cc3_scratch0, cc3_scratch1] (by decide) (by decide)]
  simp only [scM3_0, scM3_1, owns_whole]
  exact sepAssoc _ _ _

/-- What the outputs' staging buffers hold after the body at point `t` (in window order): the run's contents at the point's
    memrefs and input blocks. -/
def outsAt3 (c : Dev nD) (t : Fin cfg3.N) : Vec F S2x56x8x8x128 .f32 × Vec F S2x56x8x128 .i32 × Vec F S1x1x256 .f32 :=
  (tcOut6 c (scaleAt3 (grid3.coords t)) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t),
   tcOut7 c (scaleAt3 (grid3.coords t)) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t),
   tcOut8 c (scaleAt3 (grid3.coords t)) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t))

/-- The proof data of pipeline 3 on core `c`: the arrays as the region finds them (`V`); after the body each input's buffer at
    its block and the outputs' at `outsAt3`; the class's invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t).1
    | ⟨7, _⟩ => (outsAt3 V c t).2.1
    | ⟨8, _⟩ => (outsAt3 V c t).2.2
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t).1 := by dsimp only [dat3]
theorem after3_7 (c : Dev nD) (t : Fin cfg3.N) : (dat3 V c).after 7 t = (outsAt3 V c t).2.1 := by dsimp only [dat3]
theorem after3_8 (c : Dev nD) (t : Fin cfg3.N) : (dat3 V c).after 8 t = (outsAt3 V c t).2.2 := by dsimp only [dat3]

/-- Each input's current staging buffer holds its block at every point, fetched there or not (the window uncut and never idle). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

set_option maxHeartbeats 800000 in
/-- The body at any point: `tc_sound` at the point's memrefs and blocks. -/
theorem sound_body3 (c : Dev nD) (t : Fin cfg3.N) :
    iprop((dat3 V c).Φ t.castSucc ∗ (dat3 V c).owesAt () t.castSucc ∗ (∃ d, owns (c : Thread nD τ) (ms3_0 t) fullShare ((dat3 V c).before 0 t d)) ∗ (∃ d, owns (c : Thread nD τ) (ms3_1 t) fullShare ((dat3 V c).before 1 t d)) ∗ (∃ d, owns (c : Thread nD τ) (ms3_2 t) fullShare ((dat3 V c).before 2 t d)) ∗ (∃ d, owns (c : Thread nD τ) (ms3_3 t) fullShare ((dat3 V c).before 3 t d)) ∗ (∃ d, owns (c : Thread nD τ) (ms3_4 t) fullShare ((dat3 V c).before 4 t d)) ∗ (∃ d, owns (c : Thread nD τ) (ms3_5 t) fullShare ((dat3 V c).before 5 t d)) ∗ (∃ d, owns (c : Thread nD τ) (ms3_6 t) fullShare ((dat3 V c).before 6 t d)) ∗ (∃ d, owns (c : Thread nD τ) (ms3_7 t) fullShare ((dat3 V c).before 7 t d)) ∗ (∃ d, owns (c : Thread nD τ) (ms3_8 t) fullShare ((dat3 V c).before 8 t d)))
    ⊢ wp frame (wpE (defs₀ (F := F)) Variants.none c none) Set.univ (bodyAt3 t) (fun _ =>
      iprop((dat3 V c).Φ t.succ ∗ (dat3 V c).owesAt () t.succ ∗ owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t) ∗ owns (c : Thread nD τ) (ms3_4 t) fullShare ((dat3 V c).after 4 t) ∗ owns (c : Thread nD τ) (ms3_5 t) fullShare ((dat3 V c).after 5 t) ∗ owns (c : Thread nD τ) (ms3_6 t) fullShare ((dat3 V c).after 6 t) ∗ owns (c : Thread nD τ) (ms3_7 t) fullShare ((dat3 V c).after 7 t) ∗ owns (c : Thread nD τ) (ms3_8 t) fullShare ((dat3 V c).after 8 t))) := by
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  rw [show (dat3 V c).Φ t.castSucc = Pipeline.ΦA spec3 c from rfl, PhiA3_eq, body3_eq]
  unfold outsAt3; dsimp only
  exact tc_sound c (scaleAt3 (grid3.coords t)) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t) _ _ _ _ _

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-! # REGION 4 of @main: custom_call 4, `cc4_tc30` (pipeline 4), at the entry contents `V` -/

/-- Where the call's body reads its scales at a grid point: its blocks begin at block 30. -/
def scaleAt4 (i : grid4.Coords) : ScaleAt :=
  ⟨k4_off1 i 0#32, k4_off1 i 1#32, k4_off1_inb i 0, k4_off1_inb i 1, laneOf (blockOf 30#32 (i 0).val 0#32), laneOf (blockOf 30#32 (i 0).val 1#32)⟩
/-- The call's body is the shared one there. -/
theorem body4_eq (i : grid4.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc4_tc30 (F := F) i arg1 harg1 arg2 harg2 arg3 harg3 arg4 harg4 arg5 harg5 arg6 harg6 arg7 harg7 arg8 harg8 arg9 harg9 arg10 harg10 arg11 harg11 = tcBody (scaleAt4 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S3584x1536 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1536x256 .fp8e5m2 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1536x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2x256x448 .i8 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2x4x2x8x128 .i32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2x56x8x8x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2x56x8x128 .i32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x1x256 .f32 := win4_8.stage (cfg4.slots t 8)
abbrev hs4_8 (t : Fin cfg4.N) : (ms4_8 t).IsWhole := hstage4_8 ((cfg4.slots t 8).cast nbuf4_8)
abbrev scM4_0 : Memref sig .tc .vmem S1536x256 .bf16 := Memref.whole cc4_scratch0
abbrev scM4_1 : Memref sig .tc .vmem S448x256 .i32 := Memref.whole cc4_scratch1

/-- The class's invariant with the call's two scratch buffers taken out of the scoped rest. -/
theorem PhiA4_eq (c : Dev nD) :
    (Pipeline.ΦA spec4 c : sProp 𝕄)
      = iprop(((∃ d, owns (c : Thread nD τ) scM4_0 fullShare d) ∗ (∃ d, owns (c : Thread nD τ) scM4_1 fullShare d))
          ∗ (Pipeline.scopedRestBut (Ix := Unit) (Name := ℕ) (U := UR sig nD τ) (Lvl := ℕ) (Val := Elt F) spec4 c [cc4_scratch0, cc4_scratch1] ∗ ∃ r, prngReg c r)) := by
  unfold Pipeline.ΦA
  rw [Pipeline.scopedRest_split_of_list spec4 c [cc4_scratch0, cc4_scratch1] (by decide) (by decide)]
  simp only [scM4_0, scM4_1, owns_whole]
  exact sepAssoc _ _ _

/-- What the outputs' staging buffers hold after the body at point `t` (in window order): the run's contents at the point's
    memrefs and input blocks. -/
def outsAt4 (c : Dev nD) (t : Fin cfg4.N) : Vec F S2x56x8x8x128 .f32 × Vec F S2x56x8x128 .i32 × Vec F S1x1x256 .f32 :=
  (tcOut6 c (scaleAt4 (grid4.coords t)) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (iblk4 V c 0 t) (iblk4 V c 1 t) (iblk4 V c 2 t) (iblk4 V c 3 t) (iblk4 V c 4 t) (iblk4 V c 5 t),
   tcOut7 c (scaleAt4 (grid4.coords t)) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (iblk4 V c 0 t) (iblk4 V c 1 t) (iblk4 V c 2 t) (iblk4 V c 3 t) (iblk4 V c 4 t) (iblk4 V c 5 t),
   tcOut8 c (scaleAt4 (grid4.coords t)) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (iblk4 V c 0 t) (iblk4 V c 1 t) (iblk4 V c 2 t) (iblk4 V c 3 t) (iblk4 V c 4 t) (iblk4 V c 5 t))

/-- The proof data of pipeline 4 on core `c`: the arrays as the region finds them (`V`); after the body each input's buffer at
    its block and the outputs' at `outsAt4`; the class's invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t).1
    | ⟨7, _⟩ => (outsAt4 V c t).2.1
    | ⟨8, _⟩ => (outsAt4 V c t).2.2
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t).1 := by dsimp only [dat4]
theorem after4_7 (c : Dev nD) (t : Fin cfg4.N) : (dat4 V c).after 7 t = (outsAt4 V c t).2.1 := by dsimp only [dat4]
theorem after4_8 (c : Dev nD) (t : Fin cfg4.N) : (dat4 V c).after 8 t = (outsAt4 V c t).2.2 := by dsimp only [dat4]

/-- Each input's current staging buffer holds its block at every point, fetched there or not (the window uncut and never idle). -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

set_option maxHeartbeats 800000 in
/-- The body at any point: `tc_sound` at the point's memrefs and blocks. -/
theorem sound_body4 (c : Dev nD) (t : Fin cfg4.N) :
    iprop((dat4 V c).Φ t.castSucc ∗ (dat4 V c).owesAt () t.castSucc ∗ (∃ d, owns (c : Thread nD τ) (ms4_0 t) fullShare ((dat4 V c).before 0 t d)) ∗ (∃ d, owns (c : Thread nD τ) (ms4_1 t) fullShare ((dat4 V c).before 1 t d)) ∗ (∃ d, owns (c : Thread nD τ) (ms4_2 t) fullShare ((dat4 V c).before 2 t d)) ∗ (∃ d, owns (c : Thread nD τ) (ms4_3 t) fullShare ((dat4 V c).before 3 t d)) ∗ (∃ d, owns (c : Thread nD τ) (ms4_4 t) fullShare ((dat4 V c).before 4 t d)) ∗ (∃ d, owns (c : Thread nD τ) (ms4_5 t) fullShare ((dat4 V c).before 5 t d)) ∗ (∃ d, owns (c : Thread nD τ) (ms4_6 t) fullShare ((dat4 V c).before 6 t d)) ∗ (∃ d, owns (c : Thread nD τ) (ms4_7 t) fullShare ((dat4 V c).before 7 t d)) ∗ (∃ d, owns (c : Thread nD τ) (ms4_8 t) fullShare ((dat4 V c).before 8 t d)))
    ⊢ wp frame (wpE (defs₀ (F := F)) Variants.none c none) Set.univ (bodyAt4 t) (fun _ =>
      iprop((dat4 V c).Φ t.succ ∗ (dat4 V c).owesAt () t.succ ∗ owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t) ∗ owns (c : Thread nD τ) (ms4_4 t) fullShare ((dat4 V c).after 4 t) ∗ owns (c : Thread nD τ) (ms4_5 t) fullShare ((dat4 V c).after 5 t) ∗ owns (c : Thread nD τ) (ms4_6 t) fullShare ((dat4 V c).after 6 t) ∗ owns (c : Thread nD τ) (ms4_7 t) fullShare ((dat4 V c).after 7 t) ∗ owns (c : Thread nD τ) (ms4_8 t) fullShare ((dat4 V c).after 8 t))) := by
  unfold bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  rw [show (dat4 V c).Φ t.castSucc = Pipeline.ΦA spec4 c from rfl, PhiA4_eq, body4_eq]
  unfold outsAt4; dsimp only
  exact tc_sound c (scaleAt4 (grid4.coords t)) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (iblk4 V c 0 t) (iblk4 V c 1 t) (iblk4 V c 2 t) (iblk4 V c 3 t) (iblk4 V c 4 t) (iblk4 V c 5 t) _ _ _ _ _

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.TcCalls3.lean ====
/- Two of the matrix-product calls as regions: their bodies are `tcBody` (`TcRun`) at where each reads its scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcRegions
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_tc40` (pipeline 5), at the entry contents `V` -/

/-- Where the call's body reads its scales at a grid point: its blocks begin at block 40. -/
def scaleAt5 (i : grid5.Coords) : ScaleAt :=
  ⟨k5_off1 i 0#32, k5_off1 i 1#32, k5_off1_inb i 0, k5_off1_inb i 1, laneOf (blockOf 40#32 (i 0).val 0#32), laneOf (blockOf 40#32 (i 0).val 1#32)⟩
/-- The call's body is the shared one there. -/
theorem body5_eq (i : grid5.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc5_tc40 (F := F) i arg1 harg1 arg2 harg2 arg3 harg3 arg4 harg4 arg5 harg5 arg6 harg6 arg7 harg7 arg8 harg8 arg9 harg9 arg10 harg10 arg11 harg11 = tcBody (scaleAt5 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ms5_0 (t : Fin cfg5.N) : Memref sig .tc .vmem S3584x1536 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1536x256 .fp8e5m2 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1536x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2x256x448 .i8 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2x4x2x8x128 .i32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1x256 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2x56x8x8x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S2x56x8x128 .i32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x1x256 .f32 := win5_8.stage (cfg5.slots t 8)
abbrev hs5_8 (t : Fin cfg5.N) : (ms5_8 t).IsWhole := hstage5_8 ((cfg5.slots t 8).cast nbuf5_8)
abbrev scM5_0 : Memref sig .tc .vmem S1536x256 .bf16 := Memref.whole cc5_scratch0
abbrev scM5_1 : Memref sig .tc .vmem S448x256 .i32 := Memref.whole cc5_scratch1

/-- The class's invariant with the call's two scratch buffers taken out of the scoped rest. -/
theorem PhiA5_eq (c : Dev nD) :
    (Pipeline.ΦA spec5 c : sProp 𝕄)
      = iprop(((∃ d, owns (c : Thread nD τ) scM5_0 fullShare d) ∗ (∃ d, owns (c : Thread nD τ) scM5_1 fullShare d))
          ∗ (Pipeline.scopedRestBut (Ix := Unit) (Name := ℕ) (U := UR sig nD τ) (Lvl := ℕ) (Val := Elt F) spec5 c [cc5_scratch0, cc5_scratch1] ∗ ∃ r, prngReg c r)) := by
  unfold Pipeline.ΦA
  rw [Pipeline.scopedRest_split_of_list spec5 c [cc5_scratch0, cc5_scratch1] (by decide) (by decide)]
  simp only [scM5_0, scM5_1, owns_whole]
  exact sepAssoc _ _ _

/-- What the outputs' staging buffers hold after the body at point `t` (in window order): the run's contents at the point's
    memrefs and input blocks. -/
def outsAt5 (c : Dev nD) (t : Fin cfg5.N) : Vec F S2x56x8x8x128 .f32 × Vec F S2x56x8x128 .i32 × Vec F S1x1x256 .f32 :=
  (tcOut6 c (scaleAt5 (grid5.coords t)) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (iblk5 V c 0 t) (iblk5 V c 1 t) (iblk5 V c 2 t) (iblk5 V c 3 t) (iblk5 V c 4 t) (iblk5 V c 5 t),
   tcOut7 c (scaleAt5 (grid5.coords t)) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (iblk5 V c 0 t) (iblk5 V c 1 t) (iblk5 V c 2 t) (iblk5 V c 3 t) (iblk5 V c 4 t) (iblk5 V c 5 t),
   tcOut8 c (scaleAt5 (grid5.coords t)) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (iblk5 V c 0 t) (iblk5 V c 1 t) (iblk5 V c 2 t) (iblk5 V c 3 t) (iblk5 V c 4 t) (iblk5 V c 5 t))

/-- The proof data of pipeline 5 on core `c`: the arrays as the region finds them (`V`); after the body each input's buffer at
    its block and the outputs' at `outsAt5`; the class's invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t).1
    | ⟨7, _⟩ => (outsAt5 V c t).2.1
    | ⟨8, _⟩ => (outsAt5 V c t).2.2
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t).1 := by dsimp only [dat5]
theorem after5_7 (c : Dev nD) (t : Fin cfg5.N) : (dat5 V c).after 7 t = (outsAt5 V c t).2.1 := by dsimp only [dat5]
theorem after5_8 (c : Dev nD) (t : Fin cfg5.N) : (dat5 V c).after 8 t = (outsAt5 V c t).2.2 := by dsimp only [dat5]

/-- Each input's current staging buffer holds its block at every point, fetched there or not (the window uncut and never idle). -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A_eq5]; try rfl) t d).trans
    (by unfold Dat.fetched Dat.blockOf iblk5; rw [A_eq5]; try rfl)

set_option maxHeartbeats 800000 in
/-- The body at any point: `tc_sound` at the point's memrefs and blocks. -/
theorem sound_body5 (c : Dev nD) (t : Fin cfg5.N) :
    iprop((dat5 V c).Φ t.castSucc ∗ (dat5 V c).owesAt () t.castSucc ∗ (∃ d, owns (c : Thread nD τ) (ms5_0 t) fullShare ((dat5 V c).before 0 t d)) ∗ (∃ d, owns (c : Thread nD τ) (ms5_1 t) fullShare ((dat5 V c).before 1 t d)) ∗ (∃ d, owns (c : Thread nD τ) (ms5_2 t) fullShare ((dat5 V c).before 2 t d)) ∗ (∃ d, owns (c : Thread nD τ) (ms5_3 t) fullShare ((dat5 V c).before 3 t d)) ∗ (∃ d, owns (c : Thread nD τ) (ms5_4 t) fullShare ((dat5 V c).before 4 t d)) ∗ (∃ d, owns (c : Thread nD τ) (ms5_5 t) fullShare ((dat5 V c).before 5 t d)) ∗ (∃ d, owns (c : Thread nD τ) (ms5_6 t) fullShare ((dat5 V c).before 6 t d)) ∗ (∃ d, owns (c : Thread nD τ) (ms5_7 t) fullShare ((dat5 V c).before 7 t d)) ∗ (∃ d, owns (c : Thread nD τ) (ms5_8 t) fullShare ((dat5 V c).before 8 t d)))
    ⊢ wp frame (wpE (defs₀ (F := F)) Variants.none c none) Set.univ (bodyAt5 t) (fun _ =>
      iprop((dat5 V c).Φ t.succ ∗ (dat5 V c).owesAt () t.succ ∗ owns (c : Thread nD τ) (ms5_0 t) fullShare ((dat5 V c).after 0 t) ∗ owns (c : Thread nD τ) (ms5_1 t) fullShare ((dat5 V c).after 1 t) ∗ owns (c : Thread nD τ) (ms5_2 t) fullShare ((dat5 V c).after 2 t) ∗ owns (c : Thread nD τ) (ms5_3 t) fullShare ((dat5 V c).after 3 t) ∗ owns (c : Thread nD τ) (ms5_4 t) fullShare ((dat5 V c).after 4 t) ∗ owns (c : Thread nD τ) (ms5_5 t) fullShare ((dat5 V c).after 5 t) ∗ owns (c : Thread nD τ) (ms5_6 t) fullShare ((dat5 V c).after 6 t) ∗ owns (c : Thread nD τ) (ms5_7 t) fullShare ((dat5 V c).after 7 t) ∗ owns (c : Thread nD τ) (ms5_8 t) fullShare ((dat5 V c).after 8 t))) := by
  unfold bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  rw [show (dat5 V c).Φ t.castSucc = Pipeline.ΦA spec5 c from rfl, PhiA5_eq, body5_eq]
  unfold outsAt5; dsimp only
  exact tc_sound c (scaleAt5 (grid5.coords t)) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) scM5_0 (Memref.isWhole_whole _) scM5_1 (Memref.isWhole_whole _) (iblk5 V c 0 t) (iblk5 V c 1 t) (iblk5 V c 2 t) (iblk5 V c 3 t) (iblk5 V c 4 t) (iblk5 V c 5 t) _ _ _ _ _

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-! # REGION 6 of @main: custom_call 6, `cc6_tc50` (pipeline 6), at the entry contents `V` -/

/-- Where the call's body reads its scales at a grid point: its blocks begin at block 50. -/
def scaleAt6 (i : grid6.Coords) : ScaleAt :=
  ⟨k6_off1 i 0#32, k6_off1 i 1#32, k6_off1_inb i 0, k6_off1_inb i 1, laneOf (blockOf 50#32 (i 0).val 0#32), laneOf (blockOf 50#32 (i 0).val 1#32)⟩
/-- The call's body is the shared one there. -/
theorem body6_eq (i : grid6.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc6_tc50 (F := F) i arg1 harg1 arg2 harg2 arg3 harg3 arg4 harg4 arg5 harg5 arg6 harg6 arg7 harg7 arg8 harg8 arg9 harg9 arg10 harg10 arg11 harg11 = tcBody (scaleAt6 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev ms6_0 (t : Fin cfg6.N) : Memref sig .tc .vmem S3584x1536 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1536x256 .fp8e5m2 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1536x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2x256x448 .i8 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2x4x2x8x128 .i32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x1x256 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S2x56x8x8x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S2x56x8x128 .i32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x1x256 .f32 := win6_8.stage (cfg6.slots t 8)
abbrev hs6_8 (t : Fin cfg6.N) : (ms6_8 t).IsWhole := hstage6_8 ((cfg6.slots t 8).cast nbuf6_8)
abbrev scM6_0 : Memref sig .tc .vmem S1536x256 .bf16 := Memref.whole cc6_scratch0
abbrev scM6_1 : Memref sig .tc .vmem S448x256 .i32 := Memref.whole cc6_scratch1

/-- The class's invariant with the call's two scratch buffers taken out of the scoped rest. -/
theorem PhiA6_eq (c : Dev nD) :
    (Pipeline.ΦA spec6 c : sProp 𝕄)
      = iprop(((∃ d, owns (c : Thread nD τ) scM6_0 fullShare d) ∗ (∃ d, owns (c : Thread nD τ) scM6_1 fullShare d))
          ∗ (Pipeline.scopedRestBut (Ix := Unit) (Name := ℕ) (U := UR sig nD τ) (Lvl := ℕ) (Val := Elt F) spec6 c [cc6_scratch0, cc6_scratch1] ∗ ∃ r, prngReg c r)) := by
  unfold Pipeline.ΦA
  rw [Pipeline.scopedRest_split_of_list spec6 c [cc6_scratch0, cc6_scratch1] (by decide) (by decide)]
  simp only [scM6_0, scM6_1, owns_whole]
  exact sepAssoc _ _ _

/-- What the outputs' staging buffers hold after the body at point `t` (in window order): the run's contents at the point's
    memrefs and input blocks. -/
def outsAt6 (c : Dev nD) (t : Fin cfg6.N) : Vec F S2x56x8x8x128 .f32 × Vec F S2x56x8x128 .i32 × Vec F S1x1x256 .f32 :=
  (tcOut6 c (scaleAt6 (grid6.coords t)) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (iblk6 V c 0 t) (iblk6 V c 1 t) (iblk6 V c 2 t) (iblk6 V c 3 t) (iblk6 V c 4 t) (iblk6 V c 5 t),
   tcOut7 c (scaleAt6 (grid6.coords t)) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (iblk6 V c 0 t) (iblk6 V c 1 t) (iblk6 V c 2 t) (iblk6 V c 3 t) (iblk6 V c 4 t) (iblk6 V c 5 t),
   tcOut8 c (scaleAt6 (grid6.coords t)) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (iblk6 V c 0 t) (iblk6 V c 1 t) (iblk6 V c 2 t) (iblk6 V c 3 t) (iblk6 V c 4 t) (iblk6 V c 5 t))

/-- The proof data of pipeline 6 on core `c`: the arrays as the region finds them (`V`); after the body each input's buffer at
    its block and the outputs' at `outsAt6`; the class's invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t).1
    | ⟨7, _⟩ => (outsAt6 V c t).2.1
    | ⟨8, _⟩ => (outsAt6 V c t).2.2
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t).1 := by dsimp only [dat6]
theorem after6_7 (c : Dev nD) (t : Fin cfg6.N) : (dat6 V c).after 7 t = (outsAt6 V c t).2.1 := by dsimp only [dat6]
theorem after6_8 (c : Dev nD) (t : Fin cfg6.N) : (dat6 V c).after 8 t = (outsAt6 V c t).2.2 := by dsimp only [dat6]

/-- Each input's current staging buffer holds its block at every point, fetched there or not (the window uncut and never idle). -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl) (fun t => by rw [after6_5]; unfold Dat.blockOf iblk6; rw [A_eq6]; try rfl) t d).trans
    (by unfold Dat.fetched Dat.blockOf iblk6; rw [A_eq6]; try rfl)

set_option maxHeartbeats 800000 in
/-- The body at any point: `tc_sound` at the point's memrefs and blocks. -/
theorem sound_body6 (c : Dev nD) (t : Fin cfg6.N) :
    iprop((dat6 V c).Φ t.castSucc ∗ (dat6 V c).owesAt () t.castSucc ∗ (∃ d, owns (c : Thread nD τ) (ms6_0 t) fullShare ((dat6 V c).before 0 t d)) ∗ (∃ d, owns (c : Thread nD τ) (ms6_1 t) fullShare ((dat6 V c).before 1 t d)) ∗ (∃ d, owns (c : Thread nD τ) (ms6_2 t) fullShare ((dat6 V c).before 2 t d)) ∗ (∃ d, owns (c : Thread nD τ) (ms6_3 t) fullShare ((dat6 V c).before 3 t d)) ∗ (∃ d, owns (c : Thread nD τ) (ms6_4 t) fullShare ((dat6 V c).before 4 t d)) ∗ (∃ d, owns (c : Thread nD τ) (ms6_5 t) fullShare ((dat6 V c).before 5 t d)) ∗ (∃ d, owns (c : Thread nD τ) (ms6_6 t) fullShare ((dat6 V c).before 6 t d)) ∗ (∃ d, owns (c : Thread nD τ) (ms6_7 t) fullShare ((dat6 V c).before 7 t d)) ∗ (∃ d, owns (c : Thread nD τ) (ms6_8 t) fullShare ((dat6 V c).before 8 t d)))
    ⊢ wp frame (wpE (defs₀ (F := F)) Variants.none c none) Set.univ (bodyAt6 t) (fun _ =>
      iprop((dat6 V c).Φ t.succ ∗ (dat6 V c).owesAt () t.succ ∗ owns (c : Thread nD τ) (ms6_0 t) fullShare ((dat6 V c).after 0 t) ∗ owns (c : Thread nD τ) (ms6_1 t) fullShare ((dat6 V c).after 1 t) ∗ owns (c : Thread nD τ) (ms6_2 t) fullShare ((dat6 V c).after 2 t) ∗ owns (c : Thread nD τ) (ms6_3 t) fullShare ((dat6 V c).after 3 t) ∗ owns (c : Thread nD τ) (ms6_4 t) fullShare ((dat6 V c).after 4 t) ∗ owns (c : Thread nD τ) (ms6_5 t) fullShare ((dat6 V c).after 5 t) ∗ owns (c : Thread nD τ) (ms6_6 t) fullShare ((dat6 V c).after 6 t) ∗ owns (c : Thread nD τ) (ms6_7 t) fullShare ((dat6 V c).after 7 t) ∗ owns (c : Thread nD τ) (ms6_8 t) fullShare ((dat6 V c).after 8 t))) := by
  unfold bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  rw [show (dat6 V c).Φ t.castSucc = Pipeline.ΦA spec6 c from rfl, PhiA6_eq, body6_eq]
  unfold outsAt6; dsimp only
  exact tc_sound c (scaleAt6 (grid6.coords t)) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (iblk6 V c 0 t) (iblk6 V c 1 t) (iblk6 V c 2 t) (iblk6 V c 3 t) (iblk6 V c 4 t) (iblk6 V c 5 t) _ _ _ _ _

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Gen

end
-- ==== Proof.TcCalls4.lean ====
/- Two of the matrix-product calls as regions: their bodies are `tcBody` (`TcRun`) at where each reads its scales. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcRegions
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 7 of @main: custom_call 7, `cc7_tc60` (pipeline 7), at the entry contents `V` -/

/-- Where the call's body reads its scales at a grid point: its blocks begin at block 60. -/
def scaleAt7 (i : grid7.Coords) : ScaleAt :=
  ⟨k7_off1 i 0#32, k7_off1 i 1#32, k7_off1_inb i 0, k7_off1_inb i 1, laneOf (blockOf 60#32 (i 0).val 0#32), laneOf (blockOf 60#32 (i 0).val 1#32)⟩
/-- The call's body is the shared one there. -/
theorem body7_eq (i : grid7.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc7_tc60 (F := F) i arg1 harg1 arg2 harg2 arg3 harg3 arg4 harg4 arg5 harg5 arg6 harg6 arg7 harg7 arg8 harg8 arg9 harg9 arg10 harg10 arg11 harg11 = tcBody (scaleAt7 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev ms7_0 (t : Fin cfg7.N) : Memref sig .tc .vmem S3584x1536 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1536x256 .fp8e5m2 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1536x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2x256x448 .i8 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2x4x2x8x128 .i32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x1x256 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S2x56x8x8x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S2x56x8x128 .i32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x1x256 .f32 := win7_8.stage (cfg7.slots t 8)
abbrev hs7_8 (t : Fin cfg7.N) : (ms7_8 t).IsWhole := hstage7_8 ((cfg7.slots t 8).cast nbuf7_8)
abbrev scM7_0 : Memref sig .tc .vmem S1536x256 .bf16 := Memref.whole cc7_scratch0
abbrev scM7_1 : Memref sig .tc .vmem S448x256 .i32 := Memref.whole cc7_scratch1

/-- The class's invariant with the call's two scratch buffers taken out of the scoped rest. -/
theorem PhiA7_eq (c : Dev nD) :
    (Pipeline.ΦA spec7 c : sProp 𝕄)
      = iprop(((∃ d, owns (c : Thread nD τ) scM7_0 fullShare d) ∗ (∃ d, owns (c : Thread nD τ) scM7_1 fullShare d))
          ∗ (Pipeline.scopedRestBut (Ix := Unit) (Name := ℕ) (U := UR sig nD τ) (Lvl := ℕ) (Val := Elt F) spec7 c [cc7_scratch0, cc7_scratch1] ∗ ∃ r, prngReg c r)) := by
  unfold Pipeline.ΦA
  rw [Pipeline.scopedRest_split_of_list spec7 c [cc7_scratch0, cc7_scratch1] (by decide) (by decide)]
  simp only [scM7_0, scM7_1, owns_whole]
  exact sepAssoc _ _ _

/-- What the outputs' staging buffers hold after the body at point `t` (in window order): the run's contents at the point's
    memrefs and input blocks. -/
def outsAt7 (c : Dev nD) (t : Fin cfg7.N) : Vec F S2x56x8x8x128 .f32 × Vec F S2x56x8x128 .i32 × Vec F S1x1x256 .f32 :=
  (tcOut6 c (scaleAt7 (grid7.coords t)) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) scM7_0 (Memref.isWhole_whole _) scM7_1 (Memref.isWhole_whole _) (iblk7 V c 0 t) (iblk7 V c 1 t) (iblk7 V c 2 t) (iblk7 V c 3 t) (iblk7 V c 4 t) (iblk7 V c 5 t),
   tcOut7 c (scaleAt7 (grid7.coords t)) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) scM7_0 (Memref.isWhole_whole _) scM7_1 (Memref.isWhole_whole _) (iblk7 V c 0 t) (iblk7 V c 1 t) (iblk7 V c 2 t) (iblk7 V c 3 t) (iblk7 V c 4 t) (iblk7 V c 5 t),
   tcOut8 c (scaleAt7 (grid7.coords t)) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) scM7_0 (Memref.isWhole_whole _) scM7_1 (Memref.isWhole_whole _) (iblk7 V c 0 t) (iblk7 V c 1 t) (iblk7 V c 2 t) (iblk7 V c 3 t) (iblk7 V c 4 t) (iblk7 V c 5 t))

/-- The proof data of pipeline 7 on core `c`: the arrays as the region finds them (`V`); after the body each input's buffer at
    its block and the outputs' at `outsAt7`; the class's invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t).1
    | ⟨7, _⟩ => (outsAt7 V c t).2.1
    | ⟨8, _⟩ => (outsAt7 V c t).2.2
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t).1 := by dsimp only [dat7]
theorem after7_7 (c : Dev nD) (t : Fin cfg7.N) : (dat7 V c).after 7 t = (outsAt7 V c t).2.1 := by dsimp only [dat7]
theorem after7_8 (c : Dev nD) (t : Fin cfg7.N) : (dat7 V c).after 8 t = (outsAt7 V c t).2.2 := by dsimp only [dat7]

/-- Each input's current staging buffer holds its block at every point, fetched there or not (the window uncut and never idle). -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)

set_option maxHeartbeats 800000 in
/-- The body at any point: `tc_sound` at the point's memrefs and blocks. -/
theorem sound_body7 (c : Dev nD) (t : Fin cfg7.N) :
    iprop((dat7 V c).Φ t.castSucc ∗ (dat7 V c).owesAt () t.castSucc ∗ (∃ d, owns (c : Thread nD τ) (ms7_0 t) fullShare ((dat7 V c).before 0 t d)) ∗ (∃ d, owns (c : Thread nD τ) (ms7_1 t) fullShare ((dat7 V c).before 1 t d)) ∗ (∃ d, owns (c : Thread nD τ) (ms7_2 t) fullShare ((dat7 V c).before 2 t d)) ∗ (∃ d, owns (c : Thread nD τ) (ms7_3 t) fullShare ((dat7 V c).before 3 t d)) ∗ (∃ d, owns (c : Thread nD τ) (ms7_4 t) fullShare ((dat7 V c).before 4 t d)) ∗ (∃ d, owns (c : Thread nD τ) (ms7_5 t) fullShare ((dat7 V c).before 5 t d)) ∗ (∃ d, owns (c : Thread nD τ) (ms7_6 t) fullShare ((dat7 V c).before 6 t d)) ∗ (∃ d, owns (c : Thread nD τ) (ms7_7 t) fullShare ((dat7 V c).before 7 t d)) ∗ (∃ d, owns (c : Thread nD τ) (ms7_8 t) fullShare ((dat7 V c).before 8 t d)))
    ⊢ wp frame (wpE (defs₀ (F := F)) Variants.none c none) Set.univ (bodyAt7 t) (fun _ =>
      iprop((dat7 V c).Φ t.succ ∗ (dat7 V c).owesAt () t.succ ∗ owns (c : Thread nD τ) (ms7_0 t) fullShare ((dat7 V c).after 0 t) ∗ owns (c : Thread nD τ) (ms7_1 t) fullShare ((dat7 V c).after 1 t) ∗ owns (c : Thread nD τ) (ms7_2 t) fullShare ((dat7 V c).after 2 t) ∗ owns (c : Thread nD τ) (ms7_3 t) fullShare ((dat7 V c).after 3 t) ∗ owns (c : Thread nD τ) (ms7_4 t) fullShare ((dat7 V c).after 4 t) ∗ owns (c : Thread nD τ) (ms7_5 t) fullShare ((dat7 V c).after 5 t) ∗ owns (c : Thread nD τ) (ms7_6 t) fullShare ((dat7 V c).after 6 t) ∗ owns (c : Thread nD τ) (ms7_7 t) fullShare ((dat7 V c).after 7 t) ∗ owns (c : Thread nD τ) (ms7_8 t) fullShare ((dat7 V c).after 8 t))) := by
  unfold bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  rw [show (dat7 V c).Φ t.castSucc = Pipeline.ΦA spec7 c from rfl, PhiA7_eq, body7_eq]
  unfold outsAt7; dsimp only
  exact tc_sound c (scaleAt7 (grid7.coords t)) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) scM7_0 (Memref.isWhole_whole _) scM7_1 (Memref.isWhole_whole _) (iblk7 V c 0 t) (iblk7 V c 1 t) (iblk7 V c 2 t) (iblk7 V c 3 t) (iblk7 V c 4 t) (iblk7 V c 5 t) _ _ _ _ _

theorem defs₀_row7 (t : Fin cfg7.N) :
    defs₀ (F := F) .tc cfg7.body (cfg7.bodyArgs t (cfg7.slots t)) = bodyAt7 t := by
  unfold defs₀; rw [Defs.onTc_tc]

theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

/-! # REGION 8 of @main: custom_call 8, `cc8_tc68` (pipeline 8), at the entry contents `V` -/

/-- Where the call's body reads its scales at a grid point: its blocks begin at block 68. -/
def scaleAt8 (i : grid8.Coords) : ScaleAt :=
  ⟨k8_off1 i 0#32, k8_off1 i 1#32, k8_off1_inb i 0, k8_off1_inb i 1, laneOf (blockOf 68#32 (i 0).val 0#32), laneOf (blockOf 68#32 (i 0).val 1#32)⟩
/-- The call's body is the shared one there. -/
theorem body8_eq (i : grid8.Coords) (arg1 : Memref sig .tc .vmem S3584x1536 .bf16) (harg1 : arg1.IsWhole) (arg2 : Memref sig .tc .vmem S1536x256 .fp8e5m2) (harg2 : arg2.IsWhole) (arg3 : Memref sig .tc .vmem S1536x256 .f32) (harg3 : arg3.IsWhole) (arg4 : Memref sig .tc .vmem S2x256x448 .i8) (harg4 : arg4.IsWhole) (arg5 : Memref sig .tc .vmem S2x4x2x8x128 .i32) (harg5 : arg5.IsWhole) (arg6 : Memref sig .tc .vmem S1x1x256 .f32) (harg6 : arg6.IsWhole) (arg7 : Memref sig .tc .vmem S2x56x8x8x128 .f32) (harg7 : arg7.IsWhole) (arg8 : Memref sig .tc .vmem S2x56x8x128 .i32) (harg8 : arg8.IsWhole) (arg9 : Memref sig .tc .vmem S1x1x256 .f32) (harg9 : arg9.IsWhole) (arg10 : Memref sig .tc .vmem S1536x256 .bf16) (harg10 : arg10.IsWhole) (arg11 : Memref sig .tc .vmem S448x256 .i32) (harg11 : arg11.IsWhole) :
    cc8_tc68 (F := F) i arg1 harg1 arg2 harg2 arg3 harg3 arg4 harg4 arg5 harg5 arg6 harg6 arg7 harg7 arg8 harg8 arg9 harg9 arg10 harg10 arg11 harg11 = tcBody (scaleAt8 i) arg1 harg1 arg2 harg2 arg3 harg3 arg4 harg4 arg5 harg5 arg6 harg6 arg7 harg7 arg8 harg8 arg9 harg9 arg10 harg10 arg11 harg11 := by sl_kernel_rfl

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev ms8_0 (t : Fin cfg8.N) : Memref sig .tc .vmem S3584x1536 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1536x256 .fp8e5m2 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1536x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S2x256x448 .i8 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S2x4x2x8x128 .i32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x1x256 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S2x56x8x8x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S2x56x8x128 .i32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x1x256 .f32 := win8_8.stage (cfg8.slots t 8)
abbrev hs8_8 (t : Fin cfg8.N) : (ms8_8 t).IsWhole := hstage8_8 ((cfg8.slots t 8).cast nbuf8_8)
abbrev scM8_0 : Memref sig .tc .vmem S1536x256 .bf16 := Memref.whole cc8_scratch0
abbrev scM8_1 : Memref sig .tc .vmem S448x256 .i32 := Memref.whole cc8_scratch1

/-- The class's invariant with the call's two scratch buffers taken out of the scoped rest. -/
theorem PhiA8_eq (c : Dev nD) :
    (Pipeline.ΦA spec8 c : sProp 𝕄)
      = iprop(((∃ d, owns (c : Thread nD τ) scM8_0 fullShare d) ∗ (∃ d, owns (c : Thread nD τ) scM8_1 fullShare d))
          ∗ (Pipeline.scopedRestBut (Ix := Unit) (Name := ℕ) (U := UR sig nD τ) (Lvl := ℕ) (Val := Elt F) spec8 c [cc8_scratch0, cc8_scratch1] ∗ ∃ r, prngReg c r)) := by
  unfold Pipeline.ΦA
  rw [Pipeline.scopedRest_split_of_list spec8 c [cc8_scratch0, cc8_scratch1] (by decide) (by decide)]
  simp only [scM8_0, scM8_1, owns_whole]
  exact sepAssoc _ _ _

/-- What the outputs' staging buffers hold after the body at point `t` (in window order): the run's contents at the point's
    memrefs and input blocks. -/
def outsAt8 (c : Dev nD) (t : Fin cfg8.N) : Vec F S2x56x8x8x128 .f32 × Vec F S2x56x8x128 .i32 × Vec F S1x1x256 .f32 :=
  (tcOut6 c (scaleAt8 (grid8.coords t)) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (iblk8 V c 0 t) (iblk8 V c 1 t) (iblk8 V c 2 t) (iblk8 V c 3 t) (iblk8 V c 4 t) (iblk8 V c 5 t),
   tcOut7 c (scaleAt8 (grid8.coords t)) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (iblk8 V c 0 t) (iblk8 V c 1 t) (iblk8 V c 2 t) (iblk8 V c 3 t) (iblk8 V c 4 t) (iblk8 V c 5 t),
   tcOut8 c (scaleAt8 (grid8.coords t)) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (iblk8 V c 0 t) (iblk8 V c 1 t) (iblk8 V c 2 t) (iblk8 V c 3 t) (iblk8 V c 4 t) (iblk8 V c 5 t))

/-- The proof data of pipeline 8 on core `c`: the arrays as the region finds them (`V`); after the body each input's buffer at
    its block and the outputs' at `outsAt8`; the class's invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => (outsAt8 V c t).1
    | ⟨7, _⟩ => (outsAt8 V c t).2.1
    | ⟨8, _⟩ => (outsAt8 V c t).2.2
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = (outsAt8 V c t).1 := by dsimp only [dat8]
theorem after8_7 (c : Dev nD) (t : Fin cfg8.N) : (dat8 V c).after 7 t = (outsAt8 V c t).2.1 := by dsimp only [dat8]
theorem after8_8 (c : Dev nD) (t : Fin cfg8.N) : (dat8 V c).after 8 t = (outsAt8 V c t).2.2 := by dsimp only [dat8]

/-- Each input's current staging buffer holds its block at every point, fetched there or not (the window uncut and never idle). -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl) (fun t => by rw [after8_5]; unfold Dat.blockOf iblk8; rw [A_eq8]; try rfl) t d).trans
    (by unfold Dat.fetched Dat.blockOf iblk8; rw [A_eq8]; try rfl)

set_option maxHeartbeats 800000 in
/-- The body at any point: `tc_sound` at the point's memrefs and blocks. -/
theorem sound_body8 (c : Dev nD) (t : Fin cfg8.N) :
    iprop((dat8 V c).Φ t.castSucc ∗ (dat8 V c).owesAt () t.castSucc ∗ (∃ d, owns (c : Thread nD τ) (ms8_0 t) fullShare ((dat8 V c).before 0 t d)) ∗ (∃ d, owns (c : Thread nD τ) (ms8_1 t) fullShare ((dat8 V c).before 1 t d)) ∗ (∃ d, owns (c : Thread nD τ) (ms8_2 t) fullShare ((dat8 V c).before 2 t d)) ∗ (∃ d, owns (c : Thread nD τ) (ms8_3 t) fullShare ((dat8 V c).before 3 t d)) ∗ (∃ d, owns (c : Thread nD τ) (ms8_4 t) fullShare ((dat8 V c).before 4 t d)) ∗ (∃ d, owns (c : Thread nD τ) (ms8_5 t) fullShare ((dat8 V c).before 5 t d)) ∗ (∃ d, owns (c : Thread nD τ) (ms8_6 t) fullShare ((dat8 V c).before 6 t d)) ∗ (∃ d, owns (c : Thread nD τ) (ms8_7 t) fullShare ((dat8 V c).before 7 t d)) ∗ (∃ d, owns (c : Thread nD τ) (ms8_8 t) fullShare ((dat8 V c).before 8 t d)))
    ⊢ wp frame (wpE (defs₀ (F := F)) Variants.none c none) Set.univ (bodyAt8 t) (fun _ =>
      iprop((dat8 V c).Φ t.succ ∗ (dat8 V c).owesAt () t.succ ∗ owns (c : Thread nD τ) (ms8_0 t) fullShare ((dat8 V c).after 0 t) ∗ owns (c : Thread nD τ) (ms8_1 t) fullShare ((dat8 V c).after 1 t) ∗ owns (c : Thread nD τ) (ms8_2 t) fullShare ((dat8 V c).after 2 t) ∗ owns (c : Thread nD τ) (ms8_3 t) fullShare ((dat8 V c).after 3 t) ∗ owns (c : Thread nD τ) (ms8_4 t) fullShare ((dat8 V c).after 4 t) ∗ owns (c : Thread nD τ) (ms8_5 t) fullShare ((dat8 V c).after 5 t) ∗ owns (c : Thread nD τ) (ms8_6 t) fullShare ((dat8 V c).after 6 t) ∗ owns (c : Thread nD τ) (ms8_7 t) fullShare ((dat8 V c).after 7 t) ∗ owns (c : Thread nD τ) (ms8_8 t) fullShare ((dat8 V c).after 8 t))) := by
  unfold bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  rw [show (dat8 V c).Φ t.castSucc = Pipeline.ΦA spec8 c from rfl, PhiA8_eq, body8_eq]
  unfold outsAt8; dsimp only
  exact tc_sound c (scaleAt8 (grid8.coords t)) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (iblk8 V c 0 t) (iblk8 V c 1 t) (iblk8 V c 2 t) (iblk8 V c 3 t) (iblk8 V c 4 t) (iblk8 V c 5 t) _ _ _ _ _

theorem defs₀_row8 (t : Fin cfg8.N) :
    defs₀ (F := F) .tc cfg8.body (cfg8.bodyArgs t (cfg8.slots t)) = bodyAt8 t := by
  unfold defs₀; rw [Defs.onTc_tc]

theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

end Regions

end Cert.KernelIdeal.Gen

end
-- ==== Proof.KernelIdealFrame.lean ====
/- The frame of the `KernelIdeal` program: its calls (`TcRegions`, `TcCalls…`) among host operations, run from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.TcCalls1
public import proofs.«01_k».proof.Proof.TcCalls2
public import proofs.«01_k».proof.Proof.TcCalls3
public import proofs.«01_k».proof.Proof.TcCalls4
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v4, main_v5, main_v6, main_v7]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- A reference that is none of region 4's OUTPUT arrays keeps its entry contents across it: an input window's
    array is never written back (`Dat.arrAt_in`, `A_eq4`); any other buffer is left as is. -/
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn4 a ha)).trans (W7_args m ρ c a ha)
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- A reference that is none of region 5's OUTPUT arrays keeps its entry contents across it: an input window's
    array is never written back (`Dat.arrAt_in`, `A_eq5`); any other buffer is left as is. -/
theorem W9_of (c : Dev nD) (r : Ref sig .tc) (h : ∀ w : Fin cfg5.W, Pipeline.arrRef spec5 w = r → (cfg5.win w).isOut = false) :
    W9 m ρ c (Proc.devRef .tc r) = W8 m ρ c (Proc.devRef .tc r) := by
  by_cases hw : ∃ w : Fin cfg5.W, Pipeline.arrRef spec5 w = r
  · obtain ⟨w, rfl⟩ := hw
    exact (W9_arr m ρ c w).trans (((dat5 (V8 m ρ) c).arrAt_in w (h w rfl) _).trans (A_eq5 (V8 m ρ) c w))
  · exact W9_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn5 a ha)).trans (W8_args m ρ c a ha)
/-- The same read at the TensorCore's references (region 5's exit contents). -/
abbrev V9 : (c : Dev nD) → (b : Ref sig .tc) → Buf (Elt F) ((c : Thread nD τ).loc b) := fun c b => W9 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- At region 6's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec6 c (W9 m ρ c) fun w => (dat6 (V9 m ρ) c).arrAt w cfg6.N
theorem W10_arr (c : Dev nD) (w : Fin cfg6.W) :
    W10 m ρ c (Proc.devRef .tc (Pipeline.arrRef spec6 w)) = (dat6 (V9 m ρ) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m ρ c (Proc.devRef .tc b) = W9 m ρ c (Proc.devRef .tc b) := by
  unfold W10; exact Pipeline.withArrays_of_ne spec6 c _ _ b hb
/-- A reference that is none of region 6's OUTPUT arrays keeps its entry contents across it: an input window's
    array is never written back (`Dat.arrAt_in`, `A_eq6`); any other buffer is left as is. -/
theorem W10_of (c : Dev nD) (r : Ref sig .tc) (h : ∀ w : Fin cfg6.W, Pipeline.arrRef spec6 w = r → (cfg6.win w).isOut = false) :
    W10 m ρ c (Proc.devRef .tc r) = W9 m ρ c (Proc.devRef .tc r) := by
  by_cases hw : ∃ w : Fin cfg6.W, Pipeline.arrRef spec6 w = r
  · obtain ⟨w, rfl⟩ := hw
    exact (W10_arr m ρ c w).trans (((dat6 (V9 m ρ) c).arrAt_in w (h w rfl) _).trans (A_eq6 (V9 m ρ) c w))
  · exact W10_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn6 a ha)).trans (W9_args m ρ c a ha)
/-- The same read at the TensorCore's references (region 6's exit contents). -/
abbrev V10 : (c : Dev nD) → (b : Ref sig .tc) → Buf (Elt F) ((c : Thread nD τ).loc b) := fun c b => W10 m ρ c b
/-- At region 6's exit each of its arrays holds what the pipeline leaves (`hF6`) and every other buffer what it
    held at entry (`hrest6`): the two hypotheses of Lib/Pipeline/RegionsLoop.lean `unscopedBufs_of_arrays`. -/
theorem hF6 (c : Dev nD) (w : Fin cfg6.W) : (dat6 (V9 m ρ) c).arrAt w cfg6.N = V10 m ρ c (Pipeline.arrRef spec6 w) :=
  (W10_arr m ρ c w).symm
theorem hrest6 (c : Dev nD) : ∀ b, b ∉ Finset.univ.image (Pipeline.arrRef spec6) → V10 m ρ c b = V9 m ρ c b :=
  fun b hb => W10_of_ne m ρ c b fun w e => hb (Finset.mem_image.mpr ⟨w, Finset.mem_univ _, e⟩)

/-- At region 7's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec7 c (W10 m ρ c) fun w => (dat7 (V10 m ρ) c).arrAt w cfg7.N
theorem W11_arr (c : Dev nD) (w : Fin cfg7.W) :
    W11 m ρ c (Proc.devRef .tc (Pipeline.arrRef spec7 w)) = (dat7 (V10 m ρ) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m ρ c (Proc.devRef .tc b) = W10 m ρ c (Proc.devRef .tc b) := by
  unfold W11; exact Pipeline.withArrays_of_ne spec7 c _ _ b hb
/-- A reference that is none of region 7's OUTPUT arrays keeps its entry contents across it: an input window's
    array is never written back (`Dat.arrAt_in`, `A_eq7`); any other buffer is left as is. -/
theorem W11_of (c : Dev nD) (r : Ref sig .tc) (h : ∀ w : Fin cfg7.W, Pipeline.arrRef spec7 w = r → (cfg7.win w).isOut = false) :
    W11 m ρ c (Proc.devRef .tc r) = W10 m ρ c (Proc.devRef .tc r) := by
  by_cases hw : ∃ w : Fin cfg7.W, Pipeline.arrRef spec7 w = r
  · obtain ⟨w, rfl⟩ := hw
    exact (W11_arr m ρ c w).trans (((dat7 (V10 m ρ) c).arrAt_in w (h w rfl) _).trans (A_eq7 (V10 m ρ) c w))
  · exact W11_of_ne m ρ c r fun w e => hw ⟨w, e⟩
/-- Every argument among region 7's arrays is an input window's (checked: each argument against each window). -/
theorem argsIn7 : ∀ a ∈ argRefs, ∀ w : Fin cfg7.W, Pipeline.arrRef spec7 w = a → (cfg7.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn7 a ha)).trans (W10_args m ρ c a ha)
/-- The same read at the TensorCore's references (region 7's exit contents). -/
abbrev V11 : (c : Dev nD) → (b : Ref sig .tc) → Buf (Elt F) ((c : Thread nD τ).loc b) := fun c b => W11 m ρ c b
/-- At region 7's exit each of its arrays holds what the pipeline leaves (`hF7`) and every other buffer what it
    held at entry (`hrest7`): the two hypotheses of Lib/Pipeline/RegionsLoop.lean `unscopedBufs_of_arrays`. -/
theorem hF7 (c : Dev nD) (w : Fin cfg7.W) : (dat7 (V10 m ρ) c).arrAt w cfg7.N = V11 m ρ c (Pipeline.arrRef spec7 w) :=
  (W11_arr m ρ c w).symm
theorem hrest7 (c : Dev nD) : ∀ b, b ∉ Finset.univ.image (Pipeline.arrRef spec7) → V11 m ρ c b = V10 m ρ c b :=
  fun b hb => W11_of_ne m ρ c b fun w e => hb (Finset.mem_image.mpr ⟨w, Finset.mem_univ _, e⟩)

/-- At region 8's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec8 c (W11 m ρ c) fun w => (dat8 (V11 m ρ) c).arrAt w cfg8.N
theorem W12_arr (c : Dev nD) (w : Fin cfg8.W) :
    W12 m ρ c (Proc.devRef .tc (Pipeline.arrRef spec8 w)) = (dat8 (V11 m ρ) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m ρ c (Proc.devRef .tc b) = W11 m ρ c (Proc.devRef .tc b) := by
  unfold W12; exact Pipeline.withArrays_of_ne spec8 c _ _ b hb
/-- A reference that is none of region 8's OUTPUT arrays keeps its entry contents across it: an input window's
    array is never written back (`Dat.arrAt_in`, `A_eq8`); any other buffer is left as is. -/
theorem W12_of (c : Dev nD) (r : Ref sig .tc) (h : ∀ w : Fin cfg8.W, Pipeline.arrRef spec8 w = r → (cfg8.win w).isOut = false) :
    W12 m ρ c (Proc.devRef .tc r) = W11 m ρ c (Proc.devRef .tc r) := by
  by_cases hw : ∃ w : Fin cfg8.W, Pipeline.arrRef spec8 w = r
  · obtain ⟨w, rfl⟩ := hw
    exact (W12_arr m ρ c w).trans (((dat8 (V11 m ρ) c).arrAt_in w (h w rfl) _).trans (A_eq8 (V11 m ρ) c w))
  · exact W12_of_ne m ρ c r fun w e => hw ⟨w, e⟩
/-- Every argument among region 8's arrays is an input window's (checked: each argument against each window). -/
theorem argsIn8 : ∀ a ∈ argRefs, ∀ w : Fin cfg8.W, Pipeline.arrRef spec8 w = a → (cfg8.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn8 a ha)).trans (W11_args m ρ c a ha)
/-- The same read at the TensorCore's references (region 8's exit contents). -/
abbrev V12 : (c : Dev nD) → (b : Ref sig .tc) → Buf (Elt F) ((c : Thread nD τ).loc b) := fun c b => W12 m ρ c b
/-- At region 8's exit each of its arrays holds what the pipeline leaves (`hF8`) and every other buffer what it
    held at entry (`hrest8`): the two hypotheses of Lib/Pipeline/RegionsLoop.lean `unscopedBufs_of_arrays`. -/
theorem hF8 (c : Dev nD) (w : Fin cfg8.W) : (dat8 (V11 m ρ) c).arrAt w cfg8.N = V12 m ρ c (Pipeline.arrRef spec8 w) :=
  (W12_arr m ρ c w).symm
theorem hrest8 (c : Dev nD) : ∀ b, b ∉ Finset.univ.image (Pipeline.arrRef spec8) → V12 m ρ c b = V11 m ρ c b :=
  fun b hb => W12_of_ne m ρ c b fun w e => hb (Finset.mem_image.mpr ⟨w, Finset.mem_univ _, e⟩)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 9) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V8 m ρ) c
  | ⟨6, _⟩ => fun c => dat6 (V9 m ρ) c
  | ⟨7, _⟩ => fun c => dat7 (V10 m ρ) c
  | ⟨8, _⟩ => fun c => dat8 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) (A_eq5 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 6 (custom_call 6) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V9 m ρ) c).loose
  hwaits := Pipeline.hwaits_of_owed_zero _ _ _ _ L lv 6 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec6 c (V9 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V9 m ρ c) (A_eq6 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V9 m ρ c) (V10 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 7 (custom_call 7) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V10 m ρ) c).loose
  hwaits := Pipeline.hwaits_of_owed_zero _ _ _ _ L lv 7 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec7 c (V10 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V10 m ρ c) (A_eq7 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V10 m ρ c) (V11 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 8 (custom_call 8) over the thread state: entered from every unscoped buffer at `W11`, left at `W12`
    (what the launch reads at the end). Its arrays split out of the unscoped buffers
    (`arrays_of_unscopedBufs`) and put back at the exit contents (`unscopedBufs_of_arrays`); the generator register into the
    class invariant `ΦA` and out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V11 m ρ) c).loose
  hwaits := Pipeline.hwaits_of_owed_zero _ _ _ _ L lv 8 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V11 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V11 m ρ c) (A_eq8 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V11 m ρ c) (V12 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ),
    .region (reg3 m ρ),
    .region (reg4 m ρ),
    .region (reg5 m ρ),
    .region (reg6 m ρ),
    .region (reg7 m ρ),
    .region (reg8 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any launch memory with zero counters, every weakly fair execution terminates with every buffer of the program at
    the fold's last contents, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W12_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c),
       (h.1 c _ (mem_uc main_arg4 (by decide))).trans (W12_main_arg4 m ρ c),
       (h.1 c _ (mem_uc main_arg5 (by decide))).trans (W12_main_arg5 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.KernelIdeal.Gen

end
-- ==== Proof.KernelEntry.lean ====
/- What the arrays of the matrix-product calls hold when the first begins, as functions of the arguments. -/
module

public import proofs.«01_k».proof.Proof.Bridge
public import proofs.«01_k».proof.Proof.KernelIdealFrame
public import Idealize.ShloMosaic.Lib.StableHlo.Run

@[expose] public section

set_option maxRecDepth 100000
set_option maxHeartbeats 400000

noncomputable section

namespace Cert.KernelIdeal.Gen

open Idealize.ShloMosaic Idealize.ShloMosaic.TcCoe Idealize.ShloMosaic.Tactic
open Idealize.SL Idealize.ShloMosaic.StableHlo Idealize.SL.Sem

variable (m : (ℓ : Loc nD τ sig) → Buf (Elt Ideal) ℓ) (ρ : Dev nD → PrngReg)

/-- The argument arrays as they are launched, at their literal shapes. -/
abbrev argX (c : Dev nD) : Vec Ideal S12x128x3584 .bf16 := m ((c.tc : Thread nD τ).loc main_arg0)
/-- See `argX`. -/
abbrev argDy (c : Dev nD) : Vec Ideal S12x128x18944 .fp8e5m2 := m ((c.tc : Thread nD τ).loc main_arg1)
/-- See `argX`. -/
abbrev argSc (c : Dev nD) : Vec Ideal S12x128x148 .f32 := m ((c.tc : Thread nD τ).loc main_arg2)
/-- See `argX`. -/
abbrev argCodes (c : Dev nD) : Vec Ideal S2x18944x448 .i8 := m ((c.tc : Thread nD τ).loc main_arg3)
/-- See `argX`. -/
abbrev argWords (c : Dev nD) : Vec Ideal S2x256x4 .i32 := m ((c.tc : Thread nD τ).loc main_arg4)
theorem V3_main_v0 (c : Dev nD) : V3 m ρ c main_v0 = shapeCast _ (argX m c) shapeCasts_S12x128x3584_S1536x3584 := by
  refine (W3_of m ρ c main_v0 (by decide)).trans ((W2_of m ρ c main_v0 (by decide)).trans ?_)
  after_results_simp
  rfl

theorem V4_main_v1 (c : Dev nD) : V4 m ρ c main_v1 = shapeCast _ (argDy m c) shapeCasts_S12x128x18944_S1536x18944 := by
  refine (W4_of m ρ c main_v1 (by decide)).trans ((W3_of m ρ c main_v1 (by decide)).trans ((W2_of m ρ c main_v1 (by decide)).trans ?_))
  after_results_simp
  rfl

theorem V4_main_v3 (c : Dev nD) : V4 m ρ c main_v3
    = pad S1536x256 ![0, 0] ![0, 108] ![0, 0] (shapeCast _ (argSc m c) shapeCasts_S12x128x148_S1536x148)
      (sitofp (F := Ideal) .f32 (constantI S_ 32 0#32) : FVec Ideal S_ .f32) pads_S1536x148_S1536x256_000_01080 h_S_ := by
  refine (W4_of m ρ c main_v3 (by decide)).trans ((W3_of m ρ c main_v3 (by decide)).trans ?_)
  after_results_simp
  rfl

theorem V4_main_v7 (c : Dev nD) : V4 m ρ c main_v7
    = broadcastInDim S2x4x2x8x128 ![0, 1, 2, 3, 4] bcast_S2x4x2x1x128_S2x4x2x8x128_0_1_2_3_4
      (shapeCast _ (transpose S2x4x256 [0, 2, 1] (argWords m c) transposes_S2x256x4_S2x4x256_0_2_1) shapeCasts_S2x4x256_S2x4x2x1x128) := by
  refine (W4_of m ρ c main_v7 (by decide)).trans ?_
  after_results_simp
  rfl

theorem V4_main_v8 (c : Dev nD) : V4 m ρ c main_v8 = (fun y => V3 m ρ c main_v0 (ix2 (y 1) (srcRow (y 0)))) :=
  (W4_arr m ρ c 1).trans (xt_array (V3 m ρ) c)

theorem V4_main_arg3 (c : Dev nD) : V4 m ρ c main_arg3 = argCodes m c := W4_args m ρ c main_arg3 (by decide)

/-- The arrays the matrix-product calls read are the arguments, reshaped, permuted and padded. -/
theorem reads (c : Dev nD) :
    Reads (fun b s i => argX m c (ix3 b s i)) (fun b s o => argDy m c (ix3 b s o)) (fun b s k => argSc m c (ix3 b s k))
      (fun k e p => argWords m c (ix3 k e p)) (fun k o g => argCodes m c (ix3 k o g))
      (V4 m ρ c main_v8) (V4 m ρ c main_v1) (V4 m ρ c main_v3) (V4 m ρ c main_arg3) (V4 m ρ c main_v7) where
  hX r b s := by
    rw [V4_main_v8, V3_main_v0]
    pointwise
  hY b s o := by
    rw [V4_main_v1]
    pointwise
  hS b s k := by
    rw [V4_main_v3]
    pointwise
    exact dif_pos (by omega)
  hC k o g := by rw [V4_main_arg3]
  hT k p u s l := by
    rw [V4_main_v7]
    pointwise
    refine congrArg (fun e => argWords m c (ix3 k e p)) (Fin.ext ?_)
    dsimp only; omega

end Cert.KernelIdeal.Gen
-- ==== Proof.CallValues1.lean ====
/- What the matrix-product calls leave of the row-scale gradient: each point's blocks are cut from the whole arrays at
   its block of rows (`BlocksAt`), and the blocks written are all there are. -/
module

public import proofs.«01_k».proof.Proof.KernelArrays
public import proofs.«01_k».proof.Proof.TcCalls1
public import Idealize.ShloMosaic.Lib.Pipeline.ValueKit

@[expose] public section

set_option maxRecDepth 100000
set_option maxHeartbeats 400000

noncomputable section

namespace Cert.KernelIdeal.Gen

open Idealize.ShloMosaic Idealize.ShloMosaic.TcCoe Idealize.ShloMosaic.Tactic
open Idealize.SL

variable (V : (c : Dev nD) → (b : Ref sig .tc) → Buf (Elt Ideal) ((c : Thread nD τ).loc b))

/-! The call whose blocks begin at block 0. -/

theorem idx1 : ∀ t : Fin grid1.N, win1_0.index t = ![0, 0] ∧ win1_1.index t = ![0, (grid1.coords t 0).val]
    ∧ win1_2.index t = ![0, 0] ∧ win1_3.index t = ![0, (grid1.coords t 0).val, 0] ∧ win1_4.index t = ![0, 0, 0, 0, 0]
    ∧ win1_8.index t = ![(grid1.coords t 0).val, 0, 0] ∧ (scaleAt1 (grid1.coords t)).Reads (2 * ((grid1.coords t 0).val)) := by
  decide +kernel

theorem coord1 (t : Fin cfg1.N) : (grid1.coords t 0).val < 10 := (grid1.coords t 0).isLt

theorem blocks1 (c : Dev nD) (t : Fin cfg1.N) :
    BlocksAt ((grid1.coords t 0).val) (iblk1 V c 0 t) (V c main_v8) (iblk1 V c 1 t) (V c main_v1)
      (iblk1 V c 2 t) (V c main_v3) (iblk1 V c 3 t) (V c main_arg3) (iblk1 V c 4 t) (V c main_v7) where
  lt := by have := coord1 t; omega
  hX := by blk_ext! [iblk1, (idx1 t).1]
  hY u q := by blk_ext [iblk1, (idx1 t).2.1]
  hS := by blk_ext! [iblk1, (idx1 t).2.2.1]
  hC m q g := by blk_ext [iblk1, (idx1 t).2.2.2.1]
  hT := by blk_ext! [iblk1, (idx1 t).2.2.2.2.1]

theorem ds1 (c : Dev nD) : (dat1 (F := Ideal) V c).arrAt 8 cfg1.N = fun y : S10x1x256.Idx =>
    dsAt (V c main_v8) (V c main_v1) (V c main_v3) (V c main_arg3) (V c main_v7) (256 * ((y 0).val) + (y 2).val) := by
  refine (dat1 (F := Ideal) V c).arrAt_eq_of_covers 8 _ (by decide +kernel) fun t hf y => ?_
  blk_simp
  rw [after1_8]
  unfold outsAt1
  dsimp only
  rw [out8_value c _ _ (by have := coord1 t; omega) (idx1 t).2.2.2.2.2.2]
  refine ((blocks1 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx1 t).2.2.2.2.2.1]
  try dsimp only
  try omega

/-! The call whose blocks begin at block 10. -/

theorem idx2 : ∀ t : Fin grid2.N, win2_0.index t = ![0, 0] ∧ win2_1.index t = ![0, 10 + (grid2.coords t 0).val]
    ∧ win2_2.index t = ![0, 0] ∧ win2_3.index t = ![0, 10 + (grid2.coords t 0).val, 0] ∧ win2_4.index t = ![0, 0, 0, 0, 0]
    ∧ win2_8.index t = ![(grid2.coords t 0).val, 0, 0] ∧ (scaleAt2 (grid2.coords t)).Reads (2 * (10 + (grid2.coords t 0).val)) := by
  decide +kernel

theorem coord2 (t : Fin cfg2.N) : (grid2.coords t 0).val < 10 := (grid2.coords t 0).isLt

theorem blocks2 (c : Dev nD) (t : Fin cfg2.N) :
    BlocksAt (10 + (grid2.coords t 0).val) (iblk2 V c 0 t) (V c main_v8) (iblk2 V c 1 t) (V c main_v1)
      (iblk2 V c 2 t) (V c main_v3) (iblk2 V c 3 t) (V c main_arg3) (iblk2 V c 4 t) (V c main_v7) where
  lt := by have := coord2 t; omega
  hX := by blk_ext! [iblk2, (idx2 t).1]
  hY u q := by blk_ext [iblk2, (idx2 t).2.1]
  hS := by blk_ext! [iblk2, (idx2 t).2.2.1]
  hC m q g := by blk_ext [iblk2, (idx2 t).2.2.2.1]
  hT := by blk_ext! [iblk2, (idx2 t).2.2.2.2.1]

theorem ds2 (c : Dev nD) : (dat2 (F := Ideal) V c).arrAt 8 cfg2.N = fun y : S10x1x256.Idx =>
    dsAt (V c main_v8) (V c main_v1) (V c main_v3) (V c main_arg3) (V c main_v7) (256 * (10 + (y 0).val) + (y 2).val) := by
  refine (dat2 (F := Ideal) V c).arrAt_eq_of_covers 8 _ (by decide +kernel) fun t hf y => ?_
  blk_simp
  rw [after2_8]
  unfold outsAt2
  dsimp only
  rw [out8_value c _ _ (by have := coord2 t; omega) (idx2 t).2.2.2.2.2.2]
  refine ((blocks2 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx2 t).2.2.2.2.2.1]
  try dsimp only
  try omega

end Cert.KernelIdeal.Gen
-- ==== Proof.CallValues2.lean ====
/- What the matrix-product calls leave of the row-scale gradient: each point's blocks are cut from the whole arrays at
   its block of rows (`BlocksAt`), and the blocks written are all there are. -/
module

public import proofs.«01_k».proof.Proof.KernelArrays
public import proofs.«01_k».proof.Proof.TcCalls2
public import Idealize.ShloMosaic.Lib.Pipeline.ValueKit

@[expose] public section

set_option maxRecDepth 100000
set_option maxHeartbeats 400000

noncomputable section

namespace Cert.KernelIdeal.Gen

open Idealize.ShloMosaic Idealize.ShloMosaic.TcCoe Idealize.ShloMosaic.Tactic
open Idealize.SL

variable (V : (c : Dev nD) → (b : Ref sig .tc) → Buf (Elt Ideal) ((c : Thread nD τ).loc b))

/-! The call whose blocks begin at block 20. -/

theorem idx3 : ∀ t : Fin grid3.N, win3_0.index t = ![0, 0] ∧ win3_1.index t = ![0, 20 + (grid3.coords t 0).val]
    ∧ win3_2.index t = ![0, 0] ∧ win3_3.index t = ![0, 20 + (grid3.coords t 0).val, 0] ∧ win3_4.index t = ![0, 0, 0, 0, 0]
    ∧ win3_8.index t = ![(grid3.coords t 0).val, 0, 0] ∧ (scaleAt3 (grid3.coords t)).Reads (2 * (20 + (grid3.coords t 0).val)) := by
  decide +kernel

theorem coord3 (t : Fin cfg3.N) : (grid3.coords t 0).val < 10 := (grid3.coords t 0).isLt

theorem blocks3 (c : Dev nD) (t : Fin cfg3.N) :
    BlocksAt (20 + (grid3.coords t 0).val) (iblk3 V c 0 t) (V c main_v8) (iblk3 V c 1 t) (V c main_v1)
      (iblk3 V c 2 t) (V c main_v3) (iblk3 V c 3 t) (V c main_arg3) (iblk3 V c 4 t) (V c main_v7) where
  lt := by have := coord3 t; omega
  hX := by blk_ext! [iblk3, (idx3 t).1]
  hY u q := by blk_ext [iblk3, (idx3 t).2.1]
  hS := by blk_ext! [iblk3, (idx3 t).2.2.1]
  hC m q g := by blk_ext [iblk3, (idx3 t).2.2.2.1]
  hT := by blk_ext! [iblk3, (idx3 t).2.2.2.2.1]

theorem ds3 (c : Dev nD) : (dat3 (F := Ideal) V c).arrAt 8 cfg3.N = fun y : S10x1x256.Idx =>
    dsAt (V c main_v8) (V c main_v1) (V c main_v3) (V c main_arg3) (V c main_v7) (256 * (20 + (y 0).val) + (y 2).val) := by
  refine (dat3 (F := Ideal) V c).arrAt_eq_of_covers 8 _ (by decide +kernel) fun t hf y => ?_
  blk_simp
  rw [after3_8]
  unfold outsAt3
  dsimp only
  rw [out8_value c _ _ (by have := coord3 t; omega) (idx3 t).2.2.2.2.2.2]
  refine ((blocks3 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx3 t).2.2.2.2.2.1]
  try dsimp only
  try omega

/-! The call whose blocks begin at block 30. -/

theorem idx4 : ∀ t : Fin grid4.N, win4_0.index t = ![0, 0] ∧ win4_1.index t = ![0, 30 + (grid4.coords t 0).val]
    ∧ win4_2.index t = ![0, 0] ∧ win4_3.index t = ![0, 30 + (grid4.coords t 0).val, 0] ∧ win4_4.index t = ![0, 0, 0, 0, 0]
    ∧ win4_8.index t = ![(grid4.coords t 0).val, 0, 0] ∧ (scaleAt4 (grid4.coords t)).Reads (2 * (30 + (grid4.coords t 0).val)) := by
  decide +kernel

theorem coord4 (t : Fin cfg4.N) : (grid4.coords t 0).val < 10 := (grid4.coords t 0).isLt

theorem blocks4 (c : Dev nD) (t : Fin cfg4.N) :
    BlocksAt (30 + (grid4.coords t 0).val) (iblk4 V c 0 t) (V c main_v8) (iblk4 V c 1 t) (V c main_v1)
      (iblk4 V c 2 t) (V c main_v3) (iblk4 V c 3 t) (V c main_arg3) (iblk4 V c 4 t) (V c main_v7) where
  lt := by have := coord4 t; omega
  hX := by blk_ext! [iblk4, (idx4 t).1]
  hY u q := by blk_ext [iblk4, (idx4 t).2.1]
  hS := by blk_ext! [iblk4, (idx4 t).2.2.1]
  hC m q g := by blk_ext [iblk4, (idx4 t).2.2.2.1]
  hT := by blk_ext! [iblk4, (idx4 t).2.2.2.2.1]

theorem ds4 (c : Dev nD) : (dat4 (F := Ideal) V c).arrAt 8 cfg4.N = fun y : S10x1x256.Idx =>
    dsAt (V c main_v8) (V c main_v1) (V c main_v3) (V c main_arg3) (V c main_v7) (256 * (30 + (y 0).val) + (y 2).val) := by
  refine (dat4 (F := Ideal) V c).arrAt_eq_of_covers 8 _ (by decide +kernel) fun t hf y => ?_
  blk_simp
  rw [after4_8]
  unfold outsAt4
  dsimp only
  rw [out8_value c _ _ (by have := coord4 t; omega) (idx4 t).2.2.2.2.2.2]
  refine ((blocks4 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx4 t).2.2.2.2.2.1]
  try dsimp only
  try omega

end Cert.KernelIdeal.Gen
-- ==== Proof.CallValues3.lean ====
/- What the matrix-product calls leave of the row-scale gradient: each point's blocks are cut from the whole arrays at
   its block of rows (`BlocksAt`), and the blocks written are all there are. -/
module

public import proofs.«01_k».proof.Proof.KernelArrays
public import proofs.«01_k».proof.Proof.TcCalls3
public import Idealize.ShloMosaic.Lib.Pipeline.ValueKit

@[expose] public section

set_option maxRecDepth 100000
set_option maxHeartbeats 400000

noncomputable section

namespace Cert.KernelIdeal.Gen

open Idealize.ShloMosaic Idealize.ShloMosaic.TcCoe Idealize.ShloMosaic.Tactic
open Idealize.SL

variable (V : (c : Dev nD) → (b : Ref sig .tc) → Buf (Elt Ideal) ((c : Thread nD τ).loc b))

/-! The call whose blocks begin at block 40. -/

theorem idx5 : ∀ t : Fin grid5.N, win5_0.index t = ![0, 0] ∧ win5_1.index t = ![0, 40 + (grid5.coords t 0).val]
    ∧ win5_2.index t = ![0, 0] ∧ win5_3.index t = ![0, 40 + (grid5.coords t 0).val, 0] ∧ win5_4.index t = ![0, 0, 0, 0, 0]
    ∧ win5_8.index t = ![(grid5.coords t 0).val, 0, 0] ∧ (scaleAt5 (grid5.coords t)).Reads (2 * (40 + (grid5.coords t 0).val)) := by
  decide +kernel

theorem coord5 (t : Fin cfg5.N) : (grid5.coords t 0).val < 10 := (grid5.coords t 0).isLt

theorem blocks5 (c : Dev nD) (t : Fin cfg5.N) :
    BlocksAt (40 + (grid5.coords t 0).val) (iblk5 V c 0 t) (V c main_v8) (iblk5 V c 1 t) (V c main_v1)
      (iblk5 V c 2 t) (V c main_v3) (iblk5 V c 3 t) (V c main_arg3) (iblk5 V c 4 t) (V c main_v7) where
  lt := by have := coord5 t; omega
  hX := by blk_ext! [iblk5, (idx5 t).1]
  hY u q := by blk_ext [iblk5, (idx5 t).2.1]
  hS := by blk_ext! [iblk5, (idx5 t).2.2.1]
  hC m q g := by blk_ext [iblk5, (idx5 t).2.2.2.1]
  hT := by blk_ext! [iblk5, (idx5 t).2.2.2.2.1]

theorem ds5 (c : Dev nD) : (dat5 (F := Ideal) V c).arrAt 8 cfg5.N = fun y : S10x1x256.Idx =>
    dsAt (V c main_v8) (V c main_v1) (V c main_v3) (V c main_arg3) (V c main_v7) (256 * (40 + (y 0).val) + (y 2).val) := by
  refine (dat5 (F := Ideal) V c).arrAt_eq_of_covers 8 _ (by decide +kernel) fun t hf y => ?_
  blk_simp
  rw [after5_8]
  unfold outsAt5
  dsimp only
  rw [out8_value c _ _ (by have := coord5 t; omega) (idx5 t).2.2.2.2.2.2]
  refine ((blocks5 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx5 t).2.2.2.2.2.1]
  try dsimp only
  try omega

/-! The call whose blocks begin at block 50. -/

theorem idx6 : ∀ t : Fin grid6.N, win6_0.index t = ![0, 0] ∧ win6_1.index t = ![0, 50 + (grid6.coords t 0).val]
    ∧ win6_2.index t = ![0, 0] ∧ win6_3.index t = ![0, 50 + (grid6.coords t 0).val, 0] ∧ win6_4.index t = ![0, 0, 0, 0, 0]
    ∧ win6_8.index t = ![(grid6.coords t 0).val, 0, 0] ∧ (scaleAt6 (grid6.coords t)).Reads (2 * (50 + (grid6.coords t 0).val)) := by
  decide +kernel

theorem coord6 (t : Fin cfg6.N) : (grid6.coords t 0).val < 10 := (grid6.coords t 0).isLt

theorem blocks6 (c : Dev nD) (t : Fin cfg6.N) :
    BlocksAt (50 + (grid6.coords t 0).val) (iblk6 V c 0 t) (V c main_v8) (iblk6 V c 1 t) (V c main_v1)
      (iblk6 V c 2 t) (V c main_v3) (iblk6 V c 3 t) (V c main_arg3) (iblk6 V c 4 t) (V c main_v7) where
  lt := by have := coord6 t; omega
  hX := by blk_ext! [iblk6, (idx6 t).1]
  hY u q := by blk_ext [iblk6, (idx6 t).2.1]
  hS := by blk_ext! [iblk6, (idx6 t).2.2.1]
  hC m q g := by blk_ext [iblk6, (idx6 t).2.2.2.1]
  hT := by blk_ext! [iblk6, (idx6 t).2.2.2.2.1]

theorem ds6 (c : Dev nD) : (dat6 (F := Ideal) V c).arrAt 8 cfg6.N = fun y : S10x1x256.Idx =>
    dsAt (V c main_v8) (V c main_v1) (V c main_v3) (V c main_arg3) (V c main_v7) (256 * (50 + (y 0).val) + (y 2).val) := by
  refine (dat6 (F := Ideal) V c).arrAt_eq_of_covers 8 _ (by decide +kernel) fun t hf y => ?_
  blk_simp
  rw [after6_8]
  unfold outsAt6
  dsimp only
  rw [out8_value c _ _ (by have := coord6 t; omega) (idx6 t).2.2.2.2.2.2]
  refine ((blocks6 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx6 t).2.2.2.2.2.1]
  try dsimp only
  try omega

end Cert.KernelIdeal.Gen
-- ==== Proof.CallValues4.lean ====
/- What the matrix-product calls leave of the row-scale gradient: each point's blocks are cut from the whole arrays at
   its block of rows (`BlocksAt`), and the blocks written are all there are. -/
module

public import proofs.«01_k».proof.Proof.KernelArrays
public import proofs.«01_k».proof.Proof.TcCalls4
public import Idealize.ShloMosaic.Lib.Pipeline.ValueKit

@[expose] public section

set_option maxRecDepth 100000
set_option maxHeartbeats 400000

noncomputable section

namespace Cert.KernelIdeal.Gen

open Idealize.ShloMosaic Idealize.ShloMosaic.TcCoe Idealize.ShloMosaic.Tactic
open Idealize.SL

variable (V : (c : Dev nD) → (b : Ref sig .tc) → Buf (Elt Ideal) ((c : Thread nD τ).loc b))

/-! The call whose blocks begin at block 60. -/

theorem idx7 : ∀ t : Fin grid7.N, win7_0.index t = ![0, 0] ∧ win7_1.index t = ![0, 60 + (grid7.coords t 0).val]
    ∧ win7_2.index t = ![0, 0] ∧ win7_3.index t = ![0, 60 + (grid7.coords t 0).val, 0] ∧ win7_4.index t = ![0, 0, 0, 0, 0]
    ∧ win7_8.index t = ![(grid7.coords t 0).val, 0, 0] ∧ (scaleAt7 (grid7.coords t)).Reads (2 * (60 + (grid7.coords t 0).val)) := by
  decide +kernel

theorem coord7 (t : Fin cfg7.N) : (grid7.coords t 0).val < 8 := (grid7.coords t 0).isLt

theorem blocks7 (c : Dev nD) (t : Fin cfg7.N) :
    BlocksAt (60 + (grid7.coords t 0).val) (iblk7 V c 0 t) (V c main_v8) (iblk7 V c 1 t) (V c main_v1)
      (iblk7 V c 2 t) (V c main_v3) (iblk7 V c 3 t) (V c main_arg3) (iblk7 V c 4 t) (V c main_v7) where
  lt := by have := coord7 t; omega
  hX := by blk_ext! [iblk7, (idx7 t).1]
  hY u q := by blk_ext [iblk7, (idx7 t).2.1]
  hS := by blk_ext! [iblk7, (idx7 t).2.2.1]
  hC m q g := by blk_ext [iblk7, (idx7 t).2.2.2.1]
  hT := by blk_ext! [iblk7, (idx7 t).2.2.2.2.1]

theorem ds7 (c : Dev nD) : (dat7 (F := Ideal) V c).arrAt 8 cfg7.N = fun y : S8x1x256.Idx =>
    dsAt (V c main_v8) (V c main_v1) (V c main_v3) (V c main_arg3) (V c main_v7) (256 * (60 + (y 0).val) + (y 2).val) := by
  refine (dat7 (F := Ideal) V c).arrAt_eq_of_covers 8 _ (by decide +kernel) fun t hf y => ?_
  blk_simp
  rw [after7_8]
  unfold outsAt7
  dsimp only
  rw [out8_value c _ _ (by have := coord7 t; omega) (idx7 t).2.2.2.2.2.2]
  refine ((blocks7 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx7 t).2.2.2.2.2.1]
  try dsimp only
  try omega

/-! The call whose blocks begin at block 68. -/

theorem idx8 : ∀ t : Fin grid8.N, win8_0.index t = ![0, 0] ∧ win8_1.index t = ![0, 68 + (grid8.coords t 0).val]
    ∧ win8_2.index t = ![0, 0] ∧ win8_3.index t = ![0, 68 + (grid8.coords t 0).val, 0] ∧ win8_4.index t = ![0, 0, 0, 0, 0]
    ∧ win8_8.index t = ![(grid8.coords t 0).val, 0, 0] ∧ (scaleAt8 (grid8.coords t)).Reads (2 * (68 + (grid8.coords t 0).val)) := by
  decide +kernel

theorem coord8 (t : Fin cfg8.N) : (grid8.coords t 0).val < 6 := (grid8.coords t 0).isLt

theorem blocks8 (c : Dev nD) (t : Fin cfg8.N) :
    BlocksAt (68 + (grid8.coords t 0).val) (iblk8 V c 0 t) (V c main_v8) (iblk8 V c 1 t) (V c main_v1)
      (iblk8 V c 2 t) (V c main_v3) (iblk8 V c 3 t) (V c main_arg3) (iblk8 V c 4 t) (V c main_v7) where
  lt := by have := coord8 t; omega
  hX := by blk_ext! [iblk8, (idx8 t).1]
  hY u q := by blk_ext [iblk8, (idx8 t).2.1]
  hS := by blk_ext! [iblk8, (idx8 t).2.2.1]
  hC m q g := by blk_ext [iblk8, (idx8 t).2.2.2.1]
  hT := by blk_ext! [iblk8, (idx8 t).2.2.2.2.1]

theorem ds8 (c : Dev nD) : (dat8 (F := Ideal) V c).arrAt 8 cfg8.N = fun y : S6x1x256.Idx =>
    dsAt (V c main_v8) (V c main_v1) (V c main_v3) (V c main_arg3) (V c main_v7) (256 * (68 + (y 0).val) + (y 2).val) := by
  refine (dat8 (F := Ideal) V c).arrAt_eq_of_covers 8 _ (by decide +kernel) fun t hf y => ?_
  blk_simp
  rw [after8_8]
  unfold outsAt8
  dsimp only
  rw [out8_value c _ _ (by have := coord8 t; omega) (idx8 t).2.2.2.2.2.2]
  refine ((blocks8 V c t).ds _ y).trans (congrArg _ ?_)
  revert y
  intro (y : S1x1x256.Idx)
  obtain ⟨a, b, q, rfl⟩ : ∃ a b q, y = ix3 a b q := ⟨y 0, y 1, y 2, eq_ix3 y⟩
  blk_simp [(idx8 t).2.2.2.2.2.1]
  try dsimp only
  try omega

end Cert.KernelIdeal.Gen
-- ==== Proof.KernelEnd.lean ====
/- What the program's results hold at its end: each call's array as the call leaves it, which no later call writes, and
   the arrays a call reads as the first call finds them, which no call writes. -/
module

public import proofs.«01_k».proof.Proof.KernelEntry
public import proofs.«01_k».proof.Proof.CallValues1
public import proofs.«01_k».proof.Proof.CallValues2
public import proofs.«01_k».proof.Proof.CallValues3
public import proofs.«01_k».proof.Proof.CallValues4

@[expose] public section

set_option maxRecDepth 100000
set_option maxHeartbeats 400000

noncomputable section

namespace Cert.KernelIdeal.Gen

open Idealize.ShloMosaic Idealize.ShloMosaic.TcCoe Idealize.ShloMosaic.Tactic
open Idealize.SL Idealize.ShloMosaic.StableHlo Idealize.SL.Sem

variable (m : (ℓ : Loc nD τ sig) → Buf (Elt Ideal) ℓ) (ρ : Dev nD → PrngReg)

/-- The row-scale gradient of a row, from the arrays the first matrix-product call finds. -/
def dsM (c : Dev nD) (o : ℕ) : EReal :=
  dsAt (V4 m ρ c main_v8) (V4 m ρ c main_v1) (V4 m ρ c main_v3) (V4 m ρ c main_arg3) (V4 m ρ c main_v7) o

/-- The arrays every call reads, then the calls' results in order: call `k` writes none of the first `4 + k`. -/
abbrev heldRefs : List (Ref sig .tc) := [main_v8, main_v1, main_v3, main_arg3, main_v7, main_v9_2, main_v10_2, main_v11_2, main_v12_2, main_v13_2, main_v14_2, main_v15_2, main_v16_2]

theorem kept1 (c : Dev nD) (a : Ref sig .tc) (h : a ∈ heldRefs.take 5) : V5 m ρ c a = V4 m ρ c a :=
  W5_of m ρ c a (ListAll.forall_mem_of_all_decide (p := fun a => ∀ w : Fin cfg1.W, Pipeline.arrRef spec1 w = a → (cfg1.win w).isOut = false)
    (by decide +kernel) a h)
theorem kept2 (c : Dev nD) (a : Ref sig .tc) (h : a ∈ heldRefs.take 6) : V6 m ρ c a = V5 m ρ c a :=
  W6_of m ρ c a (ListAll.forall_mem_of_all_decide (p := fun a => ∀ w : Fin cfg2.W, Pipeline.arrRef spec2 w = a → (cfg2.win w).isOut = false)
    (by decide +kernel) a h)
theorem kept3 (c : Dev nD) (a : Ref sig .tc) (h : a ∈ heldRefs.take 7) : V7 m ρ c a = V6 m ρ c a :=
  W7_of m ρ c a (ListAll.forall_mem_of_all_decide (p := fun a => ∀ w : Fin cfg3.W, Pipeline.arrRef spec3 w = a → (cfg3.win w).isOut = false)
    (by decide +kernel) a h)
theorem kept4 (c : Dev nD) (a : Ref sig .tc) (h : a ∈ heldRefs.take 8) : V8 m ρ c a = V7 m ρ c a :=
  W8_of m ρ c a (ListAll.forall_mem_of_all_decide (p := fun a => ∀ w : Fin cfg4.W, Pipeline.arrRef spec4 w = a → (cfg4.win w).isOut = false)
    (by decide +kernel) a h)
theorem kept5 (c : Dev nD) (a : Ref sig .tc) (h : a ∈ heldRefs.take 9) : V9 m ρ c a = V8 m ρ c a :=
  W9_of m ρ c a (ListAll.forall_mem_of_all_decide (p := fun a => ∀ w : Fin cfg5.W, Pipeline.arrRef spec5 w = a → (cfg5.win w).isOut = false)
    (by decide +kernel) a h)
theorem kept6 (c : Dev nD) (a : Ref sig .tc) (h : a ∈ heldRefs.take 10) : V10 m ρ c a = V9 m ρ c a :=
  W10_of m ρ c a (ListAll.forall_mem_of_all_decide (p := fun a => ∀ w : Fin cfg6.W, Pipeline.arrRef spec6 w = a → (cfg6.win w).isOut = false)
    (by decide +kernel) a h)
theorem kept7 (c : Dev nD) (a : Ref sig .tc) (h : a ∈ heldRefs.take 11) : V11 m ρ c a = V10 m ρ c a :=
  W11_of m ρ c a (ListAll.forall_mem_of_all_decide (p := fun a => ∀ w : Fin cfg7.W, Pipeline.arrRef spec7 w = a → (cfg7.win w).isOut = false)
    (by decide +kernel) a h)
theorem kept8 (c : Dev nD) (a : Ref sig .tc) (h : a ∈ heldRefs.take 12) : V12 m ρ c a = V11 m ρ c a :=
  W12_of m ρ c a (ListAll.forall_mem_of_all_decide (p := fun a => ∀ w : Fin cfg8.W, Pipeline.arrRef spec8 w = a → (cfg8.win w).isOut = false)
    (by decide +kernel) a h)

theorem read1 (c : Dev nD) : ∀ a ∈ heldRefs.take 5, V4 m ρ c a = V4 m ρ c a := fun _ _ => rfl
theorem read2 (c : Dev nD) : ∀ a ∈ heldRefs.take 5, V5 m ρ c a = V4 m ρ c a := fun a h => (kept1 m ρ c a (List.take_subset_take_left heldRefs (by decide) h)).trans (read1 m ρ c a h)
theorem read3 (c : Dev nD) : ∀ a ∈ heldRefs.take 5, V6 m ρ c a = V4 m ρ c a := fun a h => (kept2 m ρ c a (List.take_subset_take_left heldRefs (by decide) h)).trans (read2 m ρ c a h)
theorem read4 (c : Dev nD) : ∀ a ∈ heldRefs.take 5, V7 m ρ c a = V4 m ρ c a := fun a h => (kept3 m ρ c a (List.take_subset_take_left heldRefs (by decide) h)).trans (read3 m ρ c a h)
theorem read5 (c : Dev nD) : ∀ a ∈ heldRefs.take 5, V8 m ρ c a = V4 m ρ c a := fun a h => (kept4 m ρ c a (List.take_subset_take_left heldRefs (by decide) h)).trans (read4 m ρ c a h)
theorem read6 (c : Dev nD) : ∀ a ∈ heldRefs.take 5, V9 m ρ c a = V4 m ρ c a := fun a h => (kept5 m ρ c a (List.take_subset_take_left heldRefs (by decide) h)).trans (read5 m ρ c a h)
theorem read7 (c : Dev nD) : ∀ a ∈ heldRefs.take 5, V10 m ρ c a = V4 m ρ c a := fun a h => (kept6 m ρ c a (List.take_subset_take_left heldRefs (by decide) h)).trans (read6 m ρ c a h)
theorem read8 (c : Dev nD) : ∀ a ∈ heldRefs.take 5, V11 m ρ c a = V4 m ρ c a := fun a h => (kept7 m ρ c a (List.take_subset_take_left heldRefs (by decide) h)).trans (read7 m ρ c a h)

theorem end1 (c : Dev nD) : V12 m ρ c main_v9_2 = fun y : S10x1x256.Idx => dsM m ρ c (256 * ((y 0).val) + (y 2).val) := by
  refine (kept8 m ρ c _ (by decide)).trans ((kept7 m ρ c _ (by decide)).trans ((kept6 m ρ c _ (by decide)).trans ((kept5 m ρ c _ (by decide)).trans ((kept4 m ρ c _ (by decide)).trans ((kept3 m ρ c _ (by decide)).trans ((kept2 m ρ c _ (by decide)).trans ((W5_arr m ρ c 8).trans ((ds1 (V4 m ρ) c).trans ?_))))))))
  unfold dsM
  rw [read1 m ρ c main_v8 (by decide), read1 m ρ c main_v1 (by decide), read1 m ρ c main_v3 (by decide),
    read1 m ρ c main_arg3 (by decide), read1 m ρ c main_v7 (by decide)]

theorem end2 (c : Dev nD) : V12 m ρ c main_v10_2 = fun y : S10x1x256.Idx => dsM m ρ c (256 * (10 + (y 0).val) + (y 2).val) := by
  refine (kept8 m ρ c _ (by decide)).trans ((kept7 m ρ c _ (by decide)).trans ((kept6 m ρ c _ (by decide)).trans ((kept5 m ρ c _ (by decide)).trans ((kept4 m ρ c _ (by decide)).trans ((kept3 m ρ c _ (by decide)).trans ((W6_arr m ρ c 8).trans ((ds2 (V5 m ρ) c).trans ?_)))))))
  unfold dsM
  rw [read2 m ρ c main_v8 (by decide), read2 m ρ c main_v1 (by decide), read2 m ρ c main_v3 (by decide),
    read2 m ρ c main_arg3 (by decide), read2 m ρ c main_v7 (by decide)]

theorem end3 (c : Dev nD) : V12 m ρ c main_v11_2 = fun y : S10x1x256.Idx => dsM m ρ c (256 * (20 + (y 0).val) + (y 2).val) := by
  refine (kept8 m ρ c _ (by decide)).trans ((kept7 m ρ c _ (by decide)).trans ((kept6 m ρ c _ (by decide)).trans ((kept5 m ρ c _ (by decide)).trans ((kept4 m ρ c _ (by decide)).trans ((W7_arr m ρ c 8).trans ((ds3 (V6 m ρ) c).trans ?_))))))
  unfold dsM
  rw [read3 m ρ c main_v8 (by decide), read3 m ρ c main_v1 (by decide), read3 m ρ c main_v3 (by decide),
    read3 m ρ c main_arg3 (by decide), read3 m ρ c main_v7 (by decide)]

theorem end4 (c : Dev nD) : V12 m ρ c main_v12_2 = fun y : S10x1x256.Idx => dsM m ρ c (256 * (30 + (y 0).val) + (y 2).val) := by
  refine (kept8 m ρ c _ (by decide)).trans ((kept7 m ρ c _ (by decide)).trans ((kept6 m ρ c _ (by decide)).trans ((kept5 m ρ c _ (by decide)).trans ((W8_arr m ρ c 8).trans ((ds4 (V7 m ρ) c).trans ?_)))))
  unfold dsM
  rw [read4 m ρ c main_v8 (by decide), read4 m ρ c main_v1 (by decide), read4 m ρ c main_v3 (by decide),
    read4 m ρ c main_arg3 (by decide), read4 m ρ c main_v7 (by decide)]

theorem end5 (c : Dev nD) : V12 m ρ c main_v13_2 = fun y : S10x1x256.Idx => dsM m ρ c (256 * (40 + (y 0).val) + (y 2).val) := by
  refine (kept8 m ρ c _ (by decide)).trans ((kept7 m ρ c _ (by decide)).trans ((kept6 m ρ c _ (by decide)).trans ((W9_arr m ρ c 8).trans ((ds5 (V8 m ρ) c).trans ?_))))
  unfold dsM
  rw [read5 m ρ c main_v8 (by decide), read5 m ρ c main_v1 (by decide), read5 m ρ c main_v3 (by decide),
    read5 m ρ c main_arg3 (by decide), read5 m ρ c main_v7 (by decide)]

theorem end6 (c : Dev nD) : V12 m ρ c main_v14_2 = fun y : S10x1x256.Idx => dsM m ρ c (256 * (50 + (y 0).val) + (y 2).val) := by
  refine (kept8 m ρ c _ (by decide)).trans ((kept7 m ρ c _ (by decide)).trans ((W10_arr m ρ c 8).trans ((ds6 (V9 m ρ) c).trans ?_)))
  unfold dsM
  rw [read6 m ρ c main_v8 (by decide), read6 m ρ c main_v1 (by decide), read6 m ρ c main_v3 (by decide),
    read6 m ρ c main_arg3 (by decide), read6 m ρ c main_v7 (by decide)]

theorem end7 (c : Dev nD) : V12 m ρ c main_v15_2 = fun y : S8x1x256.Idx => dsM m ρ c (256 * (60 + (y 0).val) + (y 2).val) := by
  refine (kept8 m ρ c _ (by decide)).trans ((W11_arr m ρ c 8).trans ((ds7 (V10 m ρ) c).trans ?_))
  unfold dsM
  rw [read7 m ρ c main_v8 (by decide), read7 m ρ c main_v1 (by decide), read7 m ρ c main_v3 (by decide),
    read7 m ρ c main_arg3 (by decide), read7 m ρ c main_v7 (by decide)]

theorem end8 (c : Dev nD) : V12 m ρ c main_v16_2 = fun y : S6x1x256.Idx => dsM m ρ c (256 * (68 + (y 0).val) + (y 2).val) := by
  refine (W12_arr m ρ c 8).trans ((ds8 (V11 m ρ) c).trans ?_)
  unfold dsM
  rw [read8 m ρ c main_v8 (by decide), read8 m ρ c main_v1 (by decide), read8 m ρ c main_v3 (by decide),
    read8 m ρ c main_arg3 (by decide), read8 m ρ c main_v7 (by decide)]

end Cert.KernelIdeal.Gen
-- ==== Proof.RefValue.lean ====
/- The reference's row-scale gradient at an index, over the extended reals. -/
module

public import proofs.«01_k».proof.Proof.Gen.ReferenceIdeal.Read
public import proofs.«01_k».proof.Proof.Spec
public import Idealize.ShloMosaic.Lib.Pipeline.ValueKit
public import Idealize.ShloMosaic.Lib.Pointwise

@[expose] public section

set_option maxRecDepth 100000
set_option maxHeartbeats 400000

noncomputable section

namespace Cert.ReferenceIdeal.Read

open Cert.ReferenceIdeal Cert.ReferenceIdeal.Gen Idealize.ShloMosaic Idealize.ShloMosaic.TcCoe Idealize.ShloMosaic.Tactic
open Idealize.SL Idealize.ShloMosaic.StableHlo

/-- The three float arguments and the two integer ones as functions of their coordinates. -/
abbrev ofX (x0 : Vec Ideal S12x128x3584 .bf16) (b : Fin 12) (t : Fin 128) (i : Fin 3584) : EReal := x0 (ix3 b t i)
/-- See `ofX`. -/
abbrev ofDy (r0 : Vec Ideal S12x128x18944 .bf16) (b : Fin 12) (t : Fin 128) (o : Fin 18944) : EReal := r0 (ix3 b t o)
/-- See `ofX`. -/
abbrev ofSc (x2 : Vec Ideal S12x128x148 .f32) (b : Fin 12) (t : Fin 128) (k : Fin 148) : EReal := x2 (ix3 b t k)
/-- See `ofX`. -/
abbrev ofWords (x4 : Vec Ideal S2x256x4 .i32) (m : Fin 2) (e : Fin 256) (p : Fin 4) : BitVec 32 := x4 (ix3 m e p)
/-- See `ofX`. -/
abbrev ofCodes (x3 : Vec Ideal S2x18944x448 .i8) (m : Fin 2) (o : Fin 18944) (g : Fin 448) : BitVec 8 := x3 (ix3 m o g)

theorem v7_apply (x0 : Vec Ideal S12x128x3584 .bf16) (x2 : Vec Ideal S12x128x148 .f32) (r0 : Vec Ideal S12x128x18944 .bf16)
    (o : Fin 18944) (i : Fin 3584) :
    val_main_v7 (F := Ideal) x0 x2 r0 (ix2 o i) = Spec.grad (ofX x0) (ofDy r0) (ofSc x2) o i := by
  unfold val_main_v7
  pointwise [val_main_v6, val_main_v5, val_main_v4, val_main_v3, val_main_v2, val_main_v1]
  rfl

/-- The rows of a table taken at the indices: the row number is read signed and clamped into the table. -/
theorem take_apply {α : Type} (x : S256x8.Idx → α) (idx : IVec S18944x448x1 32) (o : Fin 18944) (g : Fin 448) (j : Fin 8) :
    Host.gather gather_S256x8_S18944x448x1_S18944x448x8_2_0_n_n_0_2_18 x idx (ix3 o g j)
      = x (ix2 ⟨min (idx (ix3 o g 0)).toInt.toNat 255, by omega⟩ j) := by
  unfold Host.gather
  congr 1
  funext a
  refine Fin.ext ?_
  show GatherDims.start gather_S256x8_S18944x448x1_S18944x448x8_2_0_n_n_0_2_18 (ix3 o g j) idx a
      + GatherDims.batchCoord gather_S256x8_S18944x448x1_S18944x448x8_2_0_n_n_0_2_18 (ix3 o g j) a
      + GatherDims.offCoord gather_S256x8_S18944x448x1_S18944x448x8_2_0_n_n_0_2_18 (ix3 o g j) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x8_S18944x448x1_S18944x448x8_2_0_n_n_0_2_18.startIndexMap
      from List.mem_singleton.mpr rfl)]
    have hsi : gather_S256x8_S18944x448x1_S18944x448x8_2_0_n_n_0_2_18.siIdx (ix3 o g j)
        ⟨List.idxOf (0 : Fin 2) gather_S256x8_S18944x448x1_S18944x448x8_2_0_n_n_0_2_18.startIndexMap,
        List.idxOf_lt_length_iff.2 (List.mem_singleton.mpr rfl)⟩ = ix3 o g 0 := by
      funext b; refine Fin.ext ?_
      match b with
      | ⟨0, _⟩ => rfl
      | ⟨1, _⟩ => rfl
      | ⟨2, _⟩ => rfl
    rw [hsi]
    rfl
  · unfold GatherDims.start
    rw [dif_neg (by decide)]
    unfold GatherDims.offCoord
    rw [dif_pos (show (1 : Fin 2) ∈ gather_S256x8_S18944x448x1_S18944x448x8_2_0_n_n_0_2_18.sKept by decide)]
    exact Nat.zero_add _

/-- A code, wrapped if negative and then clamped, is the code. -/
theorem code_index (w : BitVec 8) :
    min (Scalar.select (IntOp.cmpi .slt (BitVec.setWidth 32 w) 0#32) (IntOp.addi (BitVec.setWidth 32 w) 256#32)
      (BitVec.setWidth 32 w)).toInt.toNat 255 = w.toFin.val := by
  revert w; decide +kernel

/-- A codebook component of the reference is the half of its word. -/
theorem v18_apply (x4 : Vec Ideal S2x256x4 .i32) (m : Fin 2) (e : Fin 256) (j : Fin 8) :
    val_main_v18 (F := Ideal) x4 (ix3 m e j) = Spec.entry (ofWords x4) m e j := by
  unfold val_main_v18 val_main_v17
  pointwise [val_main_v16, val_main_v15, val_main_v14, val_main_v11, val_main_v13, val_main_v12, val_main_c_0, val_main_v10, val_main_v9, val_main_c]
  unfold Spec.entry
  by_cases h : j.val % 2 = 0
  · rw [dif_pos (by omega), if_pos h]; rfl
  · rw [dif_neg (by omega), if_neg h]

theorem v30_apply (x3 : Vec Ideal S2x18944x448 .i8) (x4 : Vec Ideal S2x256x4 .i32) (o : Fin 18944) (g : Fin 448) (j : Fin 8) :
    val_main_v30 (F := Ideal) x3 x4 (ix3 o g j) = Spec.entry (ofWords x4) 0 (ofCodes x3 0 o g).toFin j := by
  refine (take_apply _ _ o g j).trans ?_
  rw [← v18_apply]
  pointwise [val_main_v21, val_main_v20]
  refine congrArg (fun e : Fin 256 => val_main_v18 (F := Ideal) x4 (ix3 0 e j)) (Fin.ext ?_)
  refine Eq.trans ?_ (code_index (x3 (ix3 0 o g)))
  dsimp only
  congr 3
  pointwise [val_main_v29, val_main_v28, val_main_v27, val_main_v26, val_main_v25, val_main_v24, val_main_v23, val_main_v22, val_main_v19, val_main_c_1, val_main_c_2]

theorem v41_apply (x3 : Vec Ideal S2x18944x448 .i8) (x4 : Vec Ideal S2x256x4 .i32) (o : Fin 18944) (g : Fin 448) (j : Fin 8) :
    val_main_v41 (F := Ideal) x3 x4 (ix3 o g j) = Spec.entry (ofWords x4) 1 (ofCodes x3 1 o g).toFin j := by
  refine (take_apply _ _ o g j).trans ?_
  rw [← v18_apply]
  pointwise [val_main_v32, val_main_v31]
  refine congrArg (fun e : Fin 256 => val_main_v18 (F := Ideal) x4 (ix3 1 e j)) (Fin.ext ?_)
  refine Eq.trans ?_ (code_index (x3 (ix3 1 o g)))
  dsimp only
  congr 3
  pointwise [val_main_v40, val_main_v39, val_main_v38, val_main_v37, val_main_v36, val_main_v35, val_main_v34, val_main_v33, val_main_v19, val_main_c_3, val_main_c_4]

/-- The gradient of the row scales. -/
theorem v44_apply (x0 : Vec Ideal S12x128x3584 .bf16) (x2 : Vec Ideal S12x128x148 .f32) (x3 : Vec Ideal S2x18944x448 .i8)
    (x4 : Vec Ideal S2x256x4 .i32) (r0 : Vec Ideal S12x128x18944 .bf16)
    (o : Fin 18944) :
    val_main_v44 (F := Ideal) x0 x2 x3 x4 r0 (ix1 o) = Spec.scaleGrad (ofX x0) (ofDy r0) (ofSc x2) (ofWords x4) (ofCodes x3) o := by
  unfold val_main_v44 val_main_v43
  pointwise [val_main_v42, val_main_v8]
  unfold Spec.scaleGrad Spec.dec
  have h0 : (val_main_cst (F := Ideal)) (Shape.Idx.first h_S_) = (0 : EReal) := by
    pointwise [val_main_cst]
  rw [h0, zero_add]
  refine Finset.sum_congr rfl fun g _ => Finset.sum_congr rfl fun j _ => ?_
  rw [v30_apply, v41_apply, v7_apply]
  congr 3
  omega

end Cert.ReferenceIdeal.Read
-- ==== Proof.RefRegion.lean ====
/- What the reference's one kernel region leaves: the gradient codes as floats, which over the extended reals are the
   codes' own values. -/
module

public import proofs.«01_k».proof.Proof.RefValue
public import proofs.«01_k».proof.Proof.Gen.ReferenceIdeal.Run

@[expose] public section

set_option maxRecDepth 100000
set_option maxHeartbeats 400000

noncomputable section

namespace Cert.ReferenceIdeal.Read

open Cert.ReferenceIdeal Cert.ReferenceIdeal.Gen Cert.ReferenceIdeal.Value Idealize.ShloMosaic Idealize.ShloMosaic.TcCoe Idealize.ShloMosaic.Tactic
open Idealize.SL Idealize.ShloMosaic.StableHlo

variable (m : (ℓ : Loc nD τ sig) → Buf (Elt Ideal) ℓ)

theorem idxR : ∀ t : Fin grid0.N, win0_0.index t = ![0, 0, 0] ∧ win0_1.index t = ![0, 0, 0] := by
  decide +kernel

theorem region_eq (c : Dev nD) : reg_main_v0 (F := Ideal) m c = (fun y => m ((c.tc : Thread nD τ).loc main_arg1) y) := by
  unfold reg_main_v0
  refine (Gen.dats m 0 c).arrAt_eq_of_covers 1 _ (by decide +kernel) fun t hf y => ?_
  blk_simp
  rw [after0_1]
  frame_out
  revert y
  intro (y : S12x128x18944.Idx)
  blk_ext [iblk, V, (idxR t).1, (idxR t).2]

end Cert.ReferenceIdeal.Read
-- ==== Proof.Values.lean ====
/- The kernel's results against the reference's, element by element. -/
module

public import proofs.«01_k».proof.Proof.KernelEnd
public import proofs.«01_k».proof.Proof.RefRegion
public import proofs.«01_k».proof.Defs

@[expose] public section

set_option maxRecDepth 100000
set_option maxHeartbeats 400000

noncomputable section

namespace Cert.Proof

open Idealize.ShloMosaic Idealize.ShloMosaic.TcCoe Idealize.ShloMosaic.Tactic
open Idealize.SL Idealize.ShloMosaic.StableHlo Idealize.SL.Sem
open Cert.KernelIdeal (S12x128x3584 S12x128x18944 S12x128x148 S2x18944x448 S2x256x4 S18944 S10x1x256 S8x1x256 S6x1x256)
open Cert.KernelIdeal.Gen Cert.ReferenceIdeal.Read

variable (m : (ℓ : Loc Cert.KernelIdeal.nD Cert.KernelIdeal.τ Cert.KernelIdeal.sig) → Buf (Elt Ideal) ℓ)
  (ρ : Dev Cert.KernelIdeal.nD → PrngReg)

theorem res1_eq (c : Dev Cert.KernelIdeal.nD) :
    val_main_v46 (F := Ideal) (argX m c) (argSc m c) (argCodes m c) (argWords m c) (argDy m c) = V12 m ρ c Cert.KernelIdeal.main_v9_2 := by
  rw [end1]
  funext (y : S10x1x256.Idx)
  obtain ⟨n, z, q, rfl⟩ : ∃ n z q, y = ix3 n z q := ⟨y 0, y 1, y 2, eq_ix3 y⟩
  obtain rfl : z = 0 := Subsingleton.elim _ _
  unfold val_main_v46
  pointwise [val_main_v45]
  exact (v44_apply _ _ _ _ _ _).trans ((reads m ρ c).scaleGrad _ _ (by dsimp only; omega)).symm

theorem res2_eq (c : Dev Cert.KernelIdeal.nD) :
    val_main_v48 (F := Ideal) (argX m c) (argSc m c) (argCodes m c) (argWords m c) (argDy m c) = V12 m ρ c Cert.KernelIdeal.main_v10_2 := by
  rw [end2]
  funext (y : S10x1x256.Idx)
  obtain ⟨n, z, q, rfl⟩ : ∃ n z q, y = ix3 n z q := ⟨y 0, y 1, y 2, eq_ix3 y⟩
  obtain rfl : z = 0 := Subsingleton.elim _ _
  unfold val_main_v48
  pointwise [val_main_v47]
  exact (v44_apply _ _ _ _ _ _).trans ((reads m ρ c).scaleGrad _ _ (by dsimp only; omega)).symm

theorem res3_eq (c : Dev Cert.KernelIdeal.nD) :
    val_main_v50 (F := Ideal) (argX m c) (argSc m c) (argCodes m c) (argWords m c) (argDy m c) = V12 m ρ c Cert.KernelIdeal.main_v11_2 := by
  rw [end3]
  funext (y : S10x1x256.Idx)
  obtain ⟨n, z, q, rfl⟩ : ∃ n z q, y = ix3 n z q := ⟨y 0, y 1, y 2, eq_ix3 y⟩
  obtain rfl : z = 0 := Subsingleton.elim _ _
  unfold val_main_v50
  pointwise [val_main_v49]
  exact (v44_apply _ _ _ _ _ _).trans ((reads m ρ c).scaleGrad _ _ (by dsimp only; omega)).symm

theorem res4_eq (c : Dev Cert.KernelIdeal.nD) :
    val_main_v52 (F := Ideal) (argX m c) (argSc m c) (argCodes m c) (argWords m c) (argDy m c) = V12 m ρ c Cert.KernelIdeal.main_v12_2 := by
  rw [end4]
  funext (y : S10x1x256.Idx)
  obtain ⟨n, z, q, rfl⟩ : ∃ n z q, y = ix3 n z q := ⟨y 0, y 1, y 2, eq_ix3 y⟩
  obtain rfl : z = 0 := Subsingleton.elim _ _
  unfold val_main_v52
  pointwise [val_main_v51]
  exact (v44_apply _ _ _ _ _ _).trans ((reads m ρ c).scaleGrad _ _ (by dsimp only; omega)).symm

theorem res5_eq (c : Dev Cert.KernelIdeal.nD) :
    val_main_v54 (F := Ideal) (argX m c) (argSc m c) (argCodes m c) (argWords m c) (argDy m c) = V12 m ρ c Cert.KernelIdeal.main_v13_2 := by
  rw [end5]
  funext (y : S10x1x256.Idx)
  obtain ⟨n, z, q, rfl⟩ : ∃ n z q, y = ix3 n z q := ⟨y 0, y 1, y 2, eq_ix3 y⟩
  obtain rfl : z = 0 := Subsingleton.elim _ _
  unfold val_main_v54
  pointwise [val_main_v53]
  exact (v44_apply _ _ _ _ _ _).trans ((reads m ρ c).scaleGrad _ _ (by dsimp only; omega)).symm

theorem res6_eq (c : Dev Cert.KernelIdeal.nD) :
    val_main_v56 (F := Ideal) (argX m c) (argSc m c) (argCodes m c) (argWords m c) (argDy m c) = V12 m ρ c Cert.KernelIdeal.main_v14_2 := by
  rw [end6]
  funext (y : S10x1x256.Idx)
  obtain ⟨n, z, q, rfl⟩ : ∃ n z q, y = ix3 n z q := ⟨y 0, y 1, y 2, eq_ix3 y⟩
  obtain rfl : z = 0 := Subsingleton.elim _ _
  unfold val_main_v56
  pointwise [val_main_v55]
  exact (v44_apply _ _ _ _ _ _).trans ((reads m ρ c).scaleGrad _ _ (by dsimp only; omega)).symm

theorem res7_eq (c : Dev Cert.KernelIdeal.nD) :
    val_main_v58 (F := Ideal) (argX m c) (argSc m c) (argCodes m c) (argWords m c) (argDy m c) = V12 m ρ c Cert.KernelIdeal.main_v15_2 := by
  rw [end7]
  funext (y : S8x1x256.Idx)
  obtain ⟨n, z, q, rfl⟩ : ∃ n z q, y = ix3 n z q := ⟨y 0, y 1, y 2, eq_ix3 y⟩
  obtain rfl : z = 0 := Subsingleton.elim _ _
  unfold val_main_v58
  pointwise [val_main_v57]
  exact (v44_apply _ _ _ _ _ _).trans ((reads m ρ c).scaleGrad _ _ (by dsimp only; omega)).symm

theorem res8_eq (c : Dev Cert.KernelIdeal.nD) :
    val_main_v60 (F := Ideal) (argX m c) (argSc m c) (argCodes m c) (argWords m c) (argDy m c) = V12 m ρ c Cert.KernelIdeal.main_v16_2 := by
  rw [end8]
  funext (y : S6x1x256.Idx)
  obtain ⟨n, z, q, rfl⟩ : ∃ n z q, y = ix3 n z q := ⟨y 0, y 1, y 2, eq_ix3 y⟩
  obtain rfl : z = 0 := Subsingleton.elim _ _
  unfold val_main_v60
  pointwise [val_main_v59]
  exact (v44_apply _ _ _ _ _ _).trans ((reads m ρ c).scaleGrad _ _ (by dsimp only; omega)).symm

theorem algebraic [hK : Cert.KernelIdeal.Facts] [hR : Cert.ReferenceIdeal.Facts] :
    Cert.algebraic_KernelIdeal_ReferenceIdeal := by
  intro m g m' g' _ hm
  refine ⟨fun c => V12 m g c Cert.KernelIdeal.main_v9_2,
    fun c => V12 m g c Cert.KernelIdeal.main_v10_2,
    fun c => V12 m g c Cert.KernelIdeal.main_v11_2,
    fun c => V12 m g c Cert.KernelIdeal.main_v12_2,
    fun c => V12 m g c Cert.KernelIdeal.main_v13_2,
    fun c => V12 m g c Cert.KernelIdeal.main_v14_2,
    fun c => V12 m g c Cert.KernelIdeal.main_v15_2,
    fun c => V12 m g c Cert.KernelIdeal.main_v16_2, ?_, ?_⟩
  · refine (θ_run _ _ _).mono (fun _ h c => ?_) (Cert.KernelIdeal.Gen.run_all m g)
    exact ⟨h.1 c _ (mem_uc Cert.KernelIdeal.main_v9_2 (by decide)),
      h.1 c _ (mem_uc Cert.KernelIdeal.main_v10_2 (by decide)),
      h.1 c _ (mem_uc Cert.KernelIdeal.main_v11_2 (by decide)),
      h.1 c _ (mem_uc Cert.KernelIdeal.main_v12_2 (by decide)),
      h.1 c _ (mem_uc Cert.KernelIdeal.main_v13_2 (by decide)),
      h.1 c _ (mem_uc Cert.KernelIdeal.main_v14_2 (by decide)),
      h.1 c _ (mem_uc Cert.KernelIdeal.main_v15_2 (by decide)),
      h.1 c _ (mem_uc Cert.KernelIdeal.main_v16_2 (by decide)),
      (h.1 c _ (mem_uc Cert.KernelIdeal.main_arg0 (by decide))).trans (W12_main_arg0 m g c),
      (h.1 c _ (mem_uc Cert.KernelIdeal.main_arg1 (by decide))).trans (W12_main_arg1 m g c),
      (h.1 c _ (mem_uc Cert.KernelIdeal.main_arg2 (by decide))).trans (W12_main_arg2 m g c),
      (h.1 c _ (mem_uc Cert.KernelIdeal.main_arg3 (by decide))).trans (W12_main_arg3 m g c),
      (h.1 c _ (mem_uc Cert.KernelIdeal.main_arg4 (by decide))).trans (W12_main_arg4 m g c),
      (h.1 c _ (mem_uc Cert.KernelIdeal.main_arg5 (by decide))).trans (W12_main_arg5 m g c)⟩
  · refine (θ_run _ _ _).mono (fun _ h c => ?_) (Cert.ReferenceIdeal.Value.run m' g')
    obtain ⟨h1, h2, h3, h4, h5, h6, h7, h8, ha⟩ := h c
    obtain ⟨e0, e1, e2, e3, e4, -⟩ := hm c
    refine ⟨h1.trans ((val_main_v46_eq (F := Ideal) _).trans ?_),
      h2.trans ((val_main_v48_eq (F := Ideal) _).trans ?_),
      h3.trans ((val_main_v50_eq (F := Ideal) _).trans ?_),
      h4.trans ((val_main_v52_eq (F := Ideal) _).trans ?_),
      h5.trans ((val_main_v54_eq (F := Ideal) _).trans ?_),
      h6.trans ((val_main_v56_eq (F := Ideal) _).trans ?_),
      h7.trans ((val_main_v58_eq (F := Ideal) _).trans ?_),
      h8.trans ((val_main_v60_eq (F := Ideal) _).trans ?_), ha⟩
    all_goals
      rw [Cert.ReferenceIdeal.Value.exit_main_arg0, Cert.ReferenceIdeal.Value.exit_main_arg2, Cert.ReferenceIdeal.Value.exit_main_arg3,
        Cert.ReferenceIdeal.Value.exit_main_arg4, Cert.ReferenceIdeal.Value.exit_main_v0, region_eq, e0, e1, e2, e3, e4]
    exacts [res1_eq m g c, res2_eq m g c, res3_eq m g c, res4_eq m g c, res5_eq m g c, res6_eq m g c, res7_eq m g c, res8_eq m g c]

end Cert.Proof
-- ==== Proof.KernelFrame.lean ====
/- The frame of the program as it was printed. Its text and that of its idealization are the same, so at any type of
   floats the two statements are one, and the frame proved for the idealization is the frame of this program. -/
module

public import proofs.«01_k».proof.Proof.KernelIdealFrame
public import proofs.«01_k».proof.Kernel
public import proofs.«01_k».proof.Proof.Gen.Kernel

@[expose] public section

set_option maxRecDepth 100000

noncomputable section

namespace Cert.Kernel.Gen

open Idealize.ShloMosaic Idealize.ShloMosaic.TcCoe Idealize.ShloMosaic.Tactic
open Idealize.SL Idealize.SL.Sem

variable {F : FTy → Type} [FloatOps F]

/-- From every launch the argument arrays end unchanged and every counter at zero. -/
abbrev Framed : Prop := ∀ (m : (ℓ : Loc nD τ sig) → Buf (Elt F) ℓ) (ρ : Dev nD → PrngReg),
  θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

end Cert.Kernel.Gen

namespace Cert.KernelIdeal.Gen

open Idealize.ShloMosaic Idealize.ShloMosaic.TcCoe Idealize.ShloMosaic.Tactic
open Idealize.SL Idealize.SL.Sem

variable {F : FTy → Type} [FloatOps F]

/-- See `Cert.Kernel.Gen.Framed`. -/
abbrev Framed : Prop := ∀ (m : (ℓ : Loc nD τ sig) → Buf (Elt F) ℓ) (ρ : Dev nD → PrngReg),
  θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

end Cert.KernelIdeal.Gen

namespace Cert.Kernel.Gen

open Idealize.ShloMosaic Idealize.ShloMosaic.TcCoe Idealize.ShloMosaic.Tactic
open Idealize.SL Idealize.SL.Sem

/-- The two statements are one. -/
theorem framed_eq {F : FTy → Type} [FloatOps F] : Framed (F := F) = Cert.KernelIdeal.Gen.Framed (F := F) := by
  sl_kernel_rfl

theorem frame {F : FTy → Type} [FloatOps F] : Framed (F := F) :=
  framed_eq.mpr fun m ρ => Cert.KernelIdeal.Gen.frame m ρ

end Cert.Kernel.Gen
-- ==== Proof.lean ====
module

public import proofs.«01_k».proof.Proof.Gen.ReferenceIdeal.Run
public import proofs.«01_k».proof.Proof.Values
public import proofs.«01_k».proof.Defs
public import proofs.«01_k».proof.Proof.Gen.Kernel
public import proofs.«01_k».proof.Proof.KernelFrame
public import proofs.«01_k».proof.Proof.Gen.KernelIdeal
public import proofs.«01_k».proof.Proof.KernelIdealFrame
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, fun m ρ _ => Cert.ReferenceIdeal.Gen.frame m ρ, trivial,
  Cert.Proof.algebraic (hK := Cert.KernelIdeal.Gen.facts) (hR := Cert.ReferenceIdeal.Gen.facts)⟩

end Cert.Proof

end
